-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v14) = v0 c
          ∧ r.2.mem ((c.tc : Thread Cert.MixRefIdeal.nD Cert.MixRefIdeal.τ).loc Cert.MixRefIdeal.main_v28) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_4) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v41) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v42) = v2 c
          ∧ r.2.mem ((c.tc : Thread Cert.ProjRefIdeal.nD Cert.ProjRefIdeal.τ).loc Cert.ProjRefIdeal.main_v38) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
-- ==== Pre_finite.lean ====
abbrev S16 : Shape := ⟨1, ![16]⟩
abbrev S16384x1024 : Shape := ⟨2, ![16384, 1024]⟩
abbrev S16384x512 : Shape := ⟨2, ![16384, 512]⟩
abbrev S_ : Shape := ⟨0, ![]⟩
abbrev S16384x256 : Shape := ⟨2, ![16384, 256]⟩

class Facts : Prop where
  bcast_S_S16 : S_.BroadcastsInDim S16 (![] : Fin 0 → Fin S16.rank)
  reducesTo_S16_S_d0 : S16.ReducesTo [0] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  slices_S16384x512_S16384x256_0_0 : S16384x512.Slices ![0, 0] S16384x256
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v12 : IVec S_ 1) (main_v13 : FVec F S16384x256 .f32) (main_v15 : IVec S16384x256 1) (main_cst_5 : FVec F S_ .f32) : IVec S_ 1 :=
  let main_v16 : FVec F S16384x256 .f32 := broadcastInDim S16384x256 ![] bcast_S_S16384x256 main_cst_5
  let main_v17 : IVec S16384x256 1 := cmpf .olt main_v13 main_v16
  let main_v18 : IVec S16384x256 1 := andi main_v15 main_v17
  let main_c_6 : IVec S_ 1 := constantI S_ 1 1#1
  let main_v19 : IVec S_ 1 := (fun x v => Host.reduce IntOp.andi x v reducesTo_S16384x256_S_d0_1 h_S_) main_v18 main_c_6
  let main_v20 : IVec S_ 1 := andi main_v12 main_v19
  main_v20

def fn {F : FTy → Type} [FloatOps F] (main_arg0 : FVec F S16 .f32) (main_arg1 : FVec F S16384x1024 .f32) (main_arg2 : FVec F S16384x512 .f32) : IVec S_ 1 :=
  let main_cst : FVec F S_ .f32 := constant S_ .f32 0xFF800000#32
  let main_v0 : FVec F S16 .f32 := broadcastInDim S16 ![] bcast_S_S16 main_cst
  let main_v1 : IVec S16 1 := cmpf .ogt main_arg0 main_v0
  let main_cst_0 : FVec F S_ .f32 := constant S_ .f32 0x7F800000#32
  let main_v2 : FVec F S16 .f32 := broadcastInDim S16 ![] bcast_S_S16 main_cst_0
  let main_v3 : IVec S16 1 := cmpf .olt main_arg0 main_v2
  let main_v4 : IVec S16 1 := andi main_v1 main_v3
  let main_c : IVec S_ 1 := constantI S_ 1 1#1
  let main_v5 : IVec S_ 1 := (fun x v => Host.reduce IntOp.andi x v reducesTo_S16_S_d0 h_S_) main_v4 main_c
  let main_cst_1 : FVec F S_ .f32 := constant S_ .f32 0xFF800000#32
  let main_v6 : FVec F S16384x1024 .f32 := broadcastInDim S16384x1024 ![] bcast_S_S16384x1024 main_cst_1
  let main_v7 : IVec S16384x1024 1 := cmpf .ogt main_arg1 main_v6
  let main_cst_2 : FVec F S_ .f32 := constant S_ .f32 0x7F800000#32
  let main_v8 : FVec F S16384x1024 .f32 := broadcastInDim S16384x1024 ![] bcast_S_S16384x1024 main_cst_2
  let main_v9 : IVec S16384x1024 1 := cmpf .olt main_arg1 main_v8
  let main_v10 : IVec S16384x1024 1 := andi main_v7 main_v9
  let main_c_3 : IVec S_ 1 := constantI S_ 1 1#1
  let main_v11 : IVec S_ 1 := (fun x v => Host.reduce IntOp.andi x v reducesTo_S16384x1024_S_d0_1 h_S_) main_v10 main_c_3
  let main_v12 : IVec S_ 1 := andi main_v5 main_v11
  let main_v13 : FVec F S16384x256 .f32 := (extractStridedSlice S16384x256 ![0, 0] · slices_S16384x512_S16384x256_0_0) main_arg2
  let main_cst_4 : FVec F S_ .f32 := constant S_ .f32 0xFF800000#32
  let main_v14 : FVec F S16384x256 .f32 := broadcastInDim S16384x256 ![] bcast_S_S16384x256 main_cst_4
  let main_v15 : IVec S16384x256 1 := cmpf .ogt main_v13 main_v14
  let main_cst_5 : FVec F S_ .f32 := constant S_ .f32 0x7F800000#32
  fn_part1 (F := F) main_v12 main_v13 main_v15 main_cst_5
-- ==== Attn.lean ====
abbrev S16 : Shape := ⟨1, ![16]⟩
abbrev S16384x1024 : Shape := ⟨2, ![16384, 1024]⟩
abbrev S16384x512 : Shape := ⟨2, ![16384, 512]⟩
abbrev S_ : Shape := ⟨0, ![]⟩
abbrev S1024x1024 : Shape := ⟨2, ![1024, 1024]⟩
abbrev S1024x512 : Shape := ⟨2, ![1024, 512]⟩
abbrev S128x512 : Shape := ⟨2, ![128, 512]⟩
abbrev S1152x256 : Shape := ⟨2, ![1152, 256]⟩
abbrev S1152x512 : Shape := ⟨2, ![1152, 512]⟩
abbrev S128x256 : Shape := ⟨2, ![128, 256]⟩
abbrev S128x64 : Shape := ⟨2, ![128, 64]⟩
abbrev S1024x256 : Shape := ⟨2, ![1024, 256]⟩
abbrev S1024x64 : Shape := ⟨2, ![1024, 64]⟩
abbrev S128x128 : Shape := ⟨2, ![128, 128]⟩
abbrev S1x128x128 : Shape := ⟨3, ![1, 128, 128]⟩
abbrev S16x1x1 : Shape := ⟨3, ![16, 1, 1]⟩
abbrev S1 : Shape := ⟨1, ![1]⟩
abbrev S256x64 : Shape := ⟨2, ![256, 64]⟩
abbrev S512x64 : Shape := ⟨2, ![512, 64]⟩
abbrev S512x256 : Shape := ⟨2, ![512, 256]⟩
abbrev S4x128x256 : Shape := ⟨3, ![4, 128, 256]⟩
abbrev S16x128x256 : Shape := ⟨3, ![16, 128, 256]⟩
abbrev S16x128x128 : Shape := ⟨3, ![16, 128, 128]⟩
abbrev S16x128 : Shape := ⟨2, ![16, 128]⟩
abbrev S16x128x1 : Shape := ⟨3, ![16, 128, 1]⟩
abbrev S4x128x128 : Shape := ⟨3, ![4, 128, 128]⟩
abbrev S512x128 : Shape := ⟨2, ![512, 128]⟩
abbrev S4x128x1 : Shape := ⟨3, ![4, 128, 1]⟩
abbrev S512x1 : Shape := ⟨2, ![512, 1]⟩
abbrev S128x1024 : Shape := ⟨2, ![128, 1024]⟩

abbrev nBuf : Space → Nat
  | .hbm => 8
  | .vmem => 10
  | .smem => 1
  | _ => 0

abbrev bufTy : (tb : Table) → Fin (tcTables nBuf tb) → BufTy
  | .hbm, ⟨0, _⟩ => ⟨S16, .f32⟩
  | .hbm, ⟨1, _⟩ => ⟨S16384x1024, .f32⟩
  | .hbm, ⟨2, _⟩ => ⟨S16384x512, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .bf16⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S128x512, .f32⟩
  | .local _ .vmem, ⟨6, _⟩ => ⟨S1024x1024, .bf16⟩
  | .local _ .vmem, ⟨7, _⟩ => ⟨S1024x1024, .bf16⟩
  | .local _ .vmem, ⟨8, _⟩ => ⟨S1152x256, .bf16⟩
  | .local _ .vmem, ⟨9, _⟩ => ⟨S1152x512, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_15 : BitVec 32 := 0#32
  let c8_i32_16 : BitVec 32 := 8#32
  let v128 : BitVec 32 := Scalar.addi c0_i32_15 c8_i32_16
  let c1_i32_17 : BitVec 32 := 1#32
  ⟨c0_i32_15, v128, c1_i32_17⟩
def k0_mult1 (k0_t1 : Fin k0_t1_loop.trips) : BitVec 32 :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  v129
def k0_mult2 (k0_t1 : Fin k0_t1_loop.trips) : BitVec 32 :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let c128_i32_19 : BitVec 32 := 128#32
  let v131 : BitVec 32 := Scalar.addi v130 c128_i32_19
  v131
def k0_off1 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v137 : Index := Scalar.indexCast v130
  let c0_21 : Index := 0#32
  ![v137.toNat, 0]
def k0_off2 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v139 : Index := Scalar.indexCast v130
  let c0_22 : Index := 0#32
  ![v139.toNat, 0]
def k0_off3 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v142 : Index := Scalar.indexCast v130
  let c64 : Index := 64#32
  ![v142.toNat, 64]
def k0_off4 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v145 : Index := Scalar.indexCast v130
  let c128_23 : Index := 128#32
  ![v145.toNat, 128]
def k0_off5 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v148 : Index := Scalar.indexCast v130
  let c192 : Index := 192#32
  ![v148.toNat, 192]
def k0_off6 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v154 : Index := Scalar.indexCast v130
  let c64_25 : Index := 64#32
  ![v154.toNat, 64]
def k0_off7 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v156 : Index := Scalar.indexCast v130
  let c256_26 : Index := 256#32
  ![v156.toNat, 256]
def k0_off8 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v159 : Index := Scalar.indexCast v130
  let c320 : Index := 320#32
  ![v159.toNat, 320]
def k0_off9 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v162 : Index := Scalar.indexCast v130
  let c384 : Index := 384#32
  ![v162.toNat, 384]
def k0_off10 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v165 : Index := Scalar.indexCast v130
  let c448 : Index := 448#32
  ![v165.toNat, 448]
def k0_off11 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v171 : Index := Scalar.indexCast v130
  let c128_28 : Index := 128#32
  ![v171.toNat, 128]
def k0_off12 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v173 : Index := Scalar.indexCast v130
  let c512 : Index := 512#32
  ![v173.toNat, 512]
def k0_off13 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v176 : Index := Scalar.indexCast v130
  let c576 : Index := 576#32
  ![v176.toNat, 576]
def k0_off14 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v179 : Index := Scalar.indexCast v130
  let c640 : Index := 640#32
  ![v179.toNat, 640]
def k0_off15 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v182 : Index := Scalar.indexCast v130
  let c704 : Index := 704#32
  ![v182.toNat, 704]
def k0_off16 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v188 : Index := Scalar.indexCast v130
  let c192_30 : Index := 192#32
  ![v188.toNat, 192]
def k0_off17 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v190 : Index := Scalar.indexCast v130
  let c768 : Index := 768#32
  ![v190.toNat, 768]
def k0_off18 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v193 : Index := Scalar.indexCast v130
  let c832 : Index := 832#32
  ![v193.toNat, 832]
def k0_off19 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v196 : Index := Scalar.indexCast v130
  let c896 : Index := 896#32
  ![v196.toNat, 896]
def k0_off20 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v199 : Index := Scalar.indexCast v130
  let c960 : Index := 960#32
  ![v199.toNat, 960]
def k0_off21 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v242 : Index := Scalar.indexCast v130
  let c0_38 : Index := 0#32
  ![v242.toNat, 0]
def k0_off22 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let c128_i32_19 : BitVec 32 := 128#32
  let v131 : BitVec 32 := Scalar.addi v130 c128_i32_19
  let v132 : BitVec 32 := v131
  let v247 : Index := Scalar.indexCast v132
  let c0_40 : Index := 0#32
  ![v247.toNat, 0]
def k0_off23 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v263 : Index := Scalar.indexCast v130
  let c128_42 : Index := 128#32
  ![v263.toNat, 128]
def k0_off24 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let c128_i32_19 : BitVec 32 := 128#32
  let v131 : BitVec 32 := Scalar.addi v130 c128_i32_19
  let v132 : BitVec 32 := v131
  let v268 : Index := Scalar.indexCast v132
  let c128_44 : Index := 128#32
  ![v268.toNat, 128]
def k0_off25 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v284 : Index := Scalar.indexCast v130
  let c256_46 : Index := 256#32
  ![v284.toNat, 256]
def k0_off26 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let c128_i32_19 : BitVec 32 := 128#32
  let v131 : BitVec 32 := Scalar.addi v130 c128_i32_19
  let v132 : BitVec 32 := v131
  let v289 : Index := Scalar.indexCast v132
  let c256_48 : Index := 256#32
  ![v289.toNat, 256]
def k0_off27 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v305 : Index := Scalar.indexCast v130
  let c384_50 : Index := 384#32
  ![v305.toNat, 384]
def k0_off28 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let c128_i32_19 : BitVec 32 := 128#32
  let v131 : BitVec 32 := Scalar.addi v130 c128_i32_19
  let v132 : BitVec 32 := v131
  let v310 : Index := Scalar.indexCast v132
  let c384_52 : Index := 384#32
  ![v310.toNat, 384]
def k0_off29 (k0_t1 : Fin k0_t1_loop.trips) : Fin 2 → Nat :=
  let c0_i32_15 : BitVec 32 := 0#32
  let c1_i32_17 : BitVec 32 := 1#32
  let arg9 : BitVec 32 := Scf.iv c0_i32_15 c1_i32_17 k0_t1
  let c128_i32 : BitVec 32 := 128#32
  let v129 : BitVec 32 := Scalar.muli arg9 c128_i32
  let v130 : BitVec 32 := v129
  let v326 : Index := Scalar.indexCast v130
  let c0_54 : Index := 0#32
  ![v326.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16 : Shape := ⟨1, ![16]⟩
abbrev S16384x1024 : Shape := ⟨2, ![16384, 1024]⟩
abbrev S16384x512 : Shape := ⟨2, ![16384, 512]⟩
abbrev S2x8192x512 : Shape := ⟨3, ![2, 8192, 512]⟩
abbrev S2x8192x256 : Shape := ⟨3, ![2, 8192, 256]⟩
abbrev S2x8192x4x4x64 : Shape := ⟨5, ![2, 8192, 4, 4, 64]⟩
abbrev S2x8192x4x64 : Shape := ⟨4, ![2, 8192, 4, 64]⟩
abbrev S128x128x4x4x64 : Shape := ⟨5, ![128, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x128x256 : Shape := ⟨4, ![1, 64, 128, 256]⟩
abbrev S2x64x128x256 : Shape := ⟨4, ![2, 64, 128, 256]⟩
abbrev S128x1x1x128x256 : Shape := ⟨5, ![128, 1, 1, 128, 256]⟩
abbrev S2x64x128x4x64 : Shape := ⟨5, ![2, 64, 128, 4, 64]⟩
abbrev S2x1x128x4x64 : Shape := ⟨5, ![2, 1, 128, 4, 64]⟩
abbrev S2x63x128x4x64 : Shape := ⟨5, ![2, 63, 128, 4, 64]⟩
abbrev S2x64x256x4x64 : Shape := ⟨5, ![2, 64, 256, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S128x128x1024 : Shape := ⟨3, ![128, 128, 1024]⟩
abbrev S2x8192x1024 : Shape := ⟨3, ![2, 8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16, .f32⟩
  | .hbm, ⟨1, _⟩ => ⟨S16384x1024, .f32⟩
  | .hbm, ⟨2, _⟩ => ⟨S16384x512, .f32⟩
  | .hbm, ⟨3, _⟩ => ⟨S2x8192x512, .f32⟩
  | .hbm, ⟨4, _⟩ => ⟨S2x8192x256, .f32⟩
  | .hbm, ⟨5, _⟩ => ⟨S2x8192x256, .f32⟩
  | .hbm, ⟨6, _⟩ => ⟨S2x8192x4x4x64, .f32⟩
  | .hbm, ⟨7, _⟩ => ⟨S2x8192x4x64, .f32⟩
  | .hbm, ⟨8, _⟩ => ⟨S2x8192x4x64, .f32⟩
  | .hbm, ⟨9, _⟩ => ⟨S128x128x4x4x64, .f32⟩
  | .hbm, ⟨10, _⟩ => ⟨S128, .i32⟩
  | .hbm, ⟨11, _⟩ => ⟨S128x1, .i32⟩
  | .hbm, ⟨12, _⟩ => ⟨S256, .i32⟩
  | .hbm, ⟨13, _⟩ => ⟨S1x256, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S64, .i32⟩
  | .hbm, ⟨21, _⟩ => ⟨S64x1x1, .i32⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S128x256, .i1⟩
  | .hbm, ⟨29, _⟩ => ⟨S_, .i32⟩
  | .hbm, ⟨30, _⟩ => ⟨S64x1x1, .i32⟩
  | .hbm, ⟨31, _⟩ => ⟨S64x1x1, .i32⟩
  | .hbm, ⟨32, _⟩ => ⟨S_, .i32⟩
  | .hbm, ⟨33, _⟩ => ⟨S64x1x1, .i32⟩
  | .hbm, ⟨34, _⟩ => ⟨S64x1x1, .i32⟩
  | .hbm, ⟨35, _⟩ => ⟨S1x1x256, .i32⟩
  | .hbm, ⟨36, _⟩ => ⟨S64x1x256, .i32⟩
  | .hbm, ⟨37, _⟩ => ⟨S64x1x256, .i32⟩
  | .hbm, ⟨38, _⟩ => ⟨S64x1x256, .i32⟩
  | .hbm, ⟨39, _⟩ => ⟨S_, .i32⟩
  | .hbm, ⟨40, _⟩ => ⟨S64x1x256, .i32⟩
  | .hbm, ⟨41, _⟩ => ⟨S64x1x256, .i1⟩
  | .hbm, ⟨42, _⟩ => ⟨S1x128x256, .i1⟩
  | .hbm, ⟨43, _⟩ => ⟨S64x128x256, .i1⟩
  | .hbm, ⟨44, _⟩ => ⟨S64x128x256, .i1⟩
  | .hbm, ⟨45, _⟩ => ⟨S64x128x256, .i1⟩
  | .hbm, ⟨46, _⟩ => ⟨S1x64x128x256, .i1⟩
  | .hbm, ⟨47, _⟩ => ⟨S2x64x128x256, .i1⟩
  | .hbm, ⟨48, _⟩ => ⟨S128x1x1x128x256, .i1⟩
  | .hbm, ⟨49, _⟩ => ⟨S2x64x128x4x64, .f32⟩
  | .hbm, ⟨50, _⟩ => ⟨S2x1x128x4x64, .f32⟩
  | .hbm, ⟨51, _⟩ => ⟨S_, .f32⟩
  | .hbm, ⟨52, _⟩ => ⟨S2x1x128x4x64, .f32⟩
  | .hbm, ⟨53, _⟩ => ⟨S2x63x128x4x64, .f32⟩
  | .hbm, ⟨54, _⟩ => ⟨S2x64x128x4x64, .f32⟩
  | .hbm, ⟨55, _⟩ => ⟨S2x64x256x4x64, .f32⟩
  | .hbm, ⟨56, _⟩ => ⟨S128x256x4x64, .f32⟩
  | .hbm, ⟨57, _⟩ => ⟨S2x64x128x4x64, .f32⟩
  | .hbm, ⟨58, _⟩ => ⟨S2x1x128x4x64, .f32⟩
  | .hbm, ⟨59, _⟩ => ⟨S_, .f32⟩
  | .hbm, ⟨60, _⟩ => ⟨S2x1x128x4x64, .f32⟩
  | .hbm, ⟨61, _⟩ => ⟨S2x63x128x4x64, .f32⟩
  | .hbm, ⟨62, _⟩ => ⟨S2x64x128x4x64, .f32⟩
  | .hbm, ⟨63, _⟩ => ⟨S2x64x256x4x64, .f32⟩
  | .hbm, ⟨64, _⟩ => ⟨S128x256x4x64, .f32⟩
  | .hbm, ⟨65, _⟩ => ⟨S128x4x256x128x4, .f32⟩
  | .hbm, ⟨66, _⟩ => ⟨S128x4x4x128x256, .f32⟩
  | .hbm, ⟨67, _⟩ => ⟨S_, .f32⟩
  | .hbm, ⟨68, _⟩ => ⟨S128x4x4x128x256, .f32⟩
  | .hbm, ⟨69, _⟩ => ⟨S128x4x4x128x256, .f32⟩
  | .hbm, ⟨70, _⟩ => ⟨S_, .f32⟩
  | .hbm, ⟨71, _⟩ => ⟨S_, .f32⟩
  | .hbm, ⟨72, _⟩ => ⟨S128x4x4x128x256, .i1⟩
  | .hbm, ⟨73, _⟩ => ⟨S128x4x4x128x256, .f32⟩
  | .hbm, ⟨74, _⟩ => ⟨S128x4x4x128x256, .f32⟩
  | .hbm, ⟨75, _⟩ => ⟨S1x4x4x1x1, .f32⟩
  | .hbm, ⟨76, _⟩ => ⟨S_, .f32⟩
  | .hbm, ⟨77, _⟩ => ⟨S128x4x4x128, .f32⟩
  | .hbm, ⟨78, _⟩ => ⟨S128x4x4x128x1, .f32⟩
  | .hbm, ⟨79, _⟩ => ⟨S128x4x4x128x1, .f32⟩
  | .hbm, ⟨80, _⟩ => ⟨S128x4x4x128x1, .f32⟩
  | .hbm, ⟨81, _⟩ => ⟨S128x4x4x128x256, .f32⟩
  | .hbm, ⟨82, _⟩ => ⟨S128x4x4x128x256, .f32⟩
  | .hbm, ⟨83, _⟩ => ⟨S128x4x4x128x256, .f32⟩
  | .hbm, ⟨84, _⟩ => ⟨S_, .f32⟩
  | .hbm, ⟨85, _⟩ => ⟨S128x4x4x128, .f32⟩
  | .hbm, ⟨86, _⟩ => ⟨S128x4x4x128x1, .f32⟩
  | .hbm, ⟨87, _⟩ => ⟨S128x4x4x128x1, .f32⟩
  | .hbm, ⟨88, _⟩ => ⟨S128x4x4x128x1, .f32⟩
  | .hbm, ⟨89, _⟩ => ⟨S128x4x4x128x1, .f32⟩
  | .hbm, ⟨90, _⟩ => ⟨S128x4x4x128x1, .f32⟩
  | .hbm, ⟨91, _⟩ => ⟨S128x4x4x128x256, .f32⟩
  | .hbm, ⟨92, _⟩ => ⟨S128x4x4x128x256, .f32⟩
  | .hbm, ⟨93, _⟩ => ⟨S128x4x64x4x128, .f32⟩
  | .hbm, ⟨94, _⟩ => ⟨S128x128x4x4x64, .f32⟩
  | .hbm, ⟨95, _⟩ => ⟨S128x128x1024, .f32⟩
  | .hbm, ⟨96, _⟩ => ⟨S2x8192x1024, .f32⟩
  | .hbm, ⟨97, _⟩ => ⟨S16384x1024, .f32⟩
  | .hbm, ⟨98, _⟩ => ⟨S16384x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Mix.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S512x4096 : Shape := ⟨2, ![512, 4096]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S16384x2x2048 : Shape := ⟨3, ![16384, 2, 2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x4096, .f32⟩
  | .hbm, ⟨9, _⟩ => ⟨S16384x2x2048, .f32⟩
  | .hbm, ⟨10, _⟩ => ⟨S16384x1024, .f32⟩
  | .hbm, ⟨11, _⟩ => ⟨S16384x2048, .f32⟩
  | .hbm, ⟨12, _⟩ => ⟨S16384x1024, .f32⟩
  | .hbm, ⟨13, _⟩ => ⟨S16384x2048, .f32⟩
  | .hbm, ⟨14, _⟩ => ⟨S16384x1x2048, .f32⟩
  | .hbm, ⟨15, _⟩ => ⟨S16384x2048, .f32⟩
  | .hbm, ⟨16, _⟩ => ⟨S16384x2048, .f32⟩
  | .hbm, ⟨17, _⟩ => ⟨S16384x1x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x7680 : Shape := ⟨2, ![2048, 7680]⟩
abbrev S4096 : Shape := ⟨1, ![4096]⟩
abbrev S31x1024 : Shape := ⟨2, ![31, 1024]⟩
abbrev S1024 : Shape := ⟨1, ![1024]⟩
abbrev S1x2048 : Shape := ⟨2, ![1, 2048]⟩
abbrev S1x4096 : Shape := ⟨2, ![1, 4096]⟩
abbrev S1x1024 : Shape := ⟨2, ![1, 1024]⟩
abbrev S16384x1024 : Shape := ⟨2, ![16384, 1024]⟩
abbrev S16384x512 : Shape := ⟨2, ![16384, 512]⟩
abbrev S16384x4096 : Shape := ⟨2, ![16384, 4096]⟩
abbrev S2048x1024 : Shape := ⟨2, ![2048, 1024]⟩
abbrev S256x2048 : Shape := ⟨2, ![256, 2048]⟩
abbrev S256x1024 : Shape := ⟨2, ![256, 1024]⟩
abbrev S256x512 : Shape := ⟨2, ![256, 512]⟩
abbrev S256x4096 : Shape := ⟨2, ![256, 4096]⟩
abbrev S32x1024 : Shape := ⟨2, ![32, 1024]⟩
abbrev S8x288x128 : Shape := ⟨3, ![8, 288, 128]⟩
abbrev S8x32x128 : Shape := ⟨3, ![8, 32, 128]⟩
abbrev S256 : Shape := ⟨1, ![256]⟩
abbrev S256x1 : Shape := ⟨2, ![256, 1]⟩
abbrev S2048x512 : Shape := ⟨2, ![2048, 512]⟩
abbrev S2048x4096 : Shape := ⟨2, ![2048, 4096]⟩
abbrev S256x128 : Shape := ⟨2, ![256, 128]⟩
abbrev S1x256x128 : Shape := ⟨3, ![1, 256, 128]⟩
abbrev S64x128 : Shape := ⟨2, ![64, 128]⟩
abbrev S1x128 : Shape := ⟨2, ![1, 128]⟩
abbrev S1x64x128 : Shape := ⟨3, ![1, 64, 128]⟩

abbrev nBuf : Space → Nat
  | .hbm => 19
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7680, .f32⟩
  | .hbm, ⟨3, _⟩ => ⟨S4096, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x2048, .f32⟩
  | .hbm, ⟨9, _⟩ => ⟨S2048x7680, .bf16⟩
  | .hbm, ⟨10, _⟩ => ⟨S1x4096, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16384x1024, .bf16⟩
  | .hbm, ⟨15, _⟩ => ⟨S16384x512, .f32⟩
  | .hbm, ⟨16, _⟩ => ⟨S16384x4096, .bf16⟩
  | .hbm, ⟨17, _⟩ => ⟨S16384x1024, .bf16⟩
  | .hbm, ⟨18, _⟩ => ⟨S2048x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x7680, .bf16⟩
  | .local _ .vmem, ⟨4, _⟩ => ⟨S1x4096, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x512, .f32⟩
  | .local _ .vmem, ⟨12, _⟩ => ⟨S256x512, .f32⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S32x1024, .f32⟩
  | .local _ .vmem, ⟨18, _⟩ => ⟨S32x1024, .f32⟩
  | .local _ .vmem, ⟨19, _⟩ => ⟨S8x288x128, .f32⟩
  | .local _ .vmem, ⟨20, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S16384x2048 : Shape := ⟨2, ![16384, 2048]⟩
abbrev S2048 : Shape := ⟨1, ![2048]⟩
abbrev S2048x7680 : Shape := ⟨2, ![2048, 7680]⟩
abbrev S4096 : Shape := ⟨1, ![4096]⟩
abbrev S31x1024 : Shape := ⟨2, ![31, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7680 : Shape := ⟨2, ![16384, 7680]⟩
abbrev S16384x1024 : Shape := ⟨2, ![16384, 1024]⟩
abbrev S16384x512 : Shape := ⟨2, ![16384, 512]⟩
abbrev S16384x4096 : Shape := ⟨2, ![16384, 4096]⟩
abbrev S1x4096 : Shape := ⟨2, ![1, 4096]⟩
abbrev S64x256x1024 : Shape := ⟨3, ![64, 256, 1024]⟩
abbrev S64x32x1024 : Shape := ⟨3, ![64, 32, 1024]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7680, .f32⟩
  | .hbm, ⟨3, _⟩ => ⟨S4096, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x7680, .f32⟩
  | .hbm, ⟨25, _⟩ => ⟨S16384x1024, .f32⟩
  | .hbm, ⟨26, _⟩ => ⟨S16384x512, .f32⟩
  | .hbm, ⟨27, _⟩ => ⟨S16384x2048, .f32⟩
  | .hbm, ⟨28, _⟩ => ⟨S16384x4096, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S64x256x1024, .f32⟩
  | .hbm, ⟨52, _⟩ => ⟨S64x32x1024, .f32⟩
  | .hbm, ⟨53, _⟩ => ⟨S2048x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .bf16⟩
  | .hbm, ⟨58, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.AttnTile.lean ====
/-
  The attention call's kernel: what one block of 128 rows stores, read at an index.
-/
module

public import proofs.«01_k».proof.Proof.Gen.AttnIdeal.Value
public import Idealize.ShloMosaic.Lib.Pointwise
public import Idealize.ShloMosaic.Lib.Tactic.WordOmega
public import Idealize.ShloMosaic.Lib.Pipeline.ValueKit

@[expose] public section

set_option maxRecDepth 16384

noncomputable section

open Idealize.ShloMosaic Idealize.ShloMosaic.TcCoe Idealize.SL.Sem

namespace Cert.AttnIdeal.Own

open Cert.AttnIdeal Cert.AttnIdeal.Gen

/-- Real numbers in an array of `f32` values. -/
abbrev T (S : Shape) := FVec Ideal S .f32
/-- Real numbers in an array of `bf16` values. -/
abbrev W (S : Shape) := FVec Ideal S .bf16
/-- One-bit words. -/
abbrev Q (S : Shape) := IVec S 1

/-- The named mask is minus infinity. -/
theorem mask_eq : (Named.named (F := Ideal) κ "mask" 0xF149F2CA#32 : Ideal .f32) = (⊥ : EReal) := rfl

/-- The first half of the columns. -/
theorem low_at (i j : Fin 128) : k0_pay30 (ix2 i j) = 1#1 ↔ j.val < 64 := by
  pointwise [k0_pay30]
  have hj := j.isLt
  generalize j.val = j at hj ⊢
  word_omega

/-- The columns that come from the block before. -/
theorem prev_at (i j : Fin 128) : k0_pay31 (ix3 0 i j) = 1#1 ↔ i.val < j.val := by
  pointwise [k0_pay31]
  have hi := i.isLt
  have hj := j.isLt
  generalize i.val = i at hi ⊢
  generalize j.val = j at hj ⊢
  word_omega

/-- The four heads of one group against its keys. -/
theorem group_at (k : W S256x64) (q0 q1 q2 q3 : W S128x64) (g : Fin 4) (i : Fin 128) (j : Fin 256) :
    k0_pay4 (F := Ideal) k q0 q1 q2 q3 (ix3 g i j) = ∑ c : Fin 64, (![q0, q1, q2, q3] g) (ix2 i c) * k (ix2 j c) := by
  match g with
  | 0 =>
    pointwise [k0_pay4]
    all_goals refine Finset.sum_congr rfl fun x _ => congrArg (· * _) ?_
    all_goals rw [dif_pos (by omega)]
    all_goals exact congrArg q0 (congrArg (ix2 · x) (Fin.ext (by dsimp only; omega)))
  | 1 =>
    pointwise [k0_pay4]
    all_goals refine Finset.sum_congr rfl fun x _ => congrArg (· * _) ?_
    all_goals rw [dif_neg (by omega), dif_pos (by omega)]
    all_goals exact congrArg q1 (congrArg (ix2 · x) (Fin.ext (by dsimp only; omega)))
  | 2 =>
    pointwise [k0_pay4]
    all_goals refine Finset.sum_congr rfl fun x _ => congrArg (· * _) ?_
    all_goals rw [dif_neg (by omega), dif_neg (by omega), dif_pos (by omega)]
    all_goals exact congrArg q2 (congrArg (ix2 · x) (Fin.ext (by dsimp only; omega)))
  | 3 =>
    pointwise [k0_pay4]
    all_goals refine Finset.sum_congr rfl fun x _ => congrArg (· * _) ?_
    all_goals rw [dif_neg (by omega), dif_neg (by omega), dif_neg (by omega)]
    all_goals exact congrArg q3 (congrArg (ix2 · x) (Fin.ext (by dsimp only; omega)))

/-- The second group's scores are computed by the same steps. -/
theorem group_eq (k : W S256x64) (q0 q1 q2 q3 : W S128x64) :
    k0_pay5 (F := Ideal) k q0 q1 q2 q3 = k0_pay4 (F := Ideal) k q0 q1 q2 q3 := rfl

/-- The four groups' scores, one above the other. -/
def stack (a b c d : T S4x128x256) : T S16x128x256 :=
  concatenate S16x128x256 0 [⟨S4x128x256, a⟩, ⟨S4x128x256, b⟩, ⟨S4x128x256, c⟩, ⟨S4x128x256, d⟩] concatenates_S4x128x256_S4x128x256_S4x128x256_S4x128x256_S16x128x256_d0

/-- The stack at an index. -/
theorem stack_at (a b c d : T S4x128x256) (h g : Fin 4) (i : Fin 128) (j : Fin 256) :
    stack a b c d (ix3 ⟨h.val * 4 + g.val, by omega⟩ i j) = (![a, b, c, d] h) (ix3 g i j) := by
  match h with
  | 0 =>
    pointwise [stack]
    all_goals rw [dif_pos (by omega)]
    all_goals exact congrArg a (congrArg (ix3 · i j) (Fin.ext (by dsimp only; omega)))
  | 1 =>
    pointwise [stack]
    all_goals rw [dif_neg (by omega), dif_pos (by omega)]
    all_goals exact congrArg b (congrArg (ix3 · i j) (Fin.ext (by dsimp only; omega)))
  | 2 =>
    pointwise [stack]
    all_goals rw [dif_neg (by omega), dif_neg (by omega), dif_pos (by omega)]
    all_goals exact congrArg c (congrArg (ix3 · i j) (Fin.ext (by dsimp only; omega)))
  | 3 =>
    pointwise [stack]
    all_goals rw [dif_neg (by omega), dif_neg (by omega), dif_neg (by omega)]
    all_goals exact congrArg d (congrArg (ix3 · i j) (Fin.ext (by dsimp only; omega)))

/-- The banded scores: per place the column of the block before, or the block's own, or the mask. -/
def pick (fp np : Q S1x128x128) (s : T S16x128x256) : T S16x128x128 :=
  select (broadcastTo S16x128x128 (shapeCast S1x128x128 np shapeCasts_S1x128x128_S1x128x128) broadcasts_S1x128x128_S16x128x128)
    (broadcast S16x128x128 (Named.named (F := Ideal) κ "mask" 0xF149F2CA#32 : Ideal .f32))
    (select (broadcastTo S16x128x128 (shapeCast S1x128x128 fp shapeCasts_S1x128x128_S1x128x128) broadcasts_S1x128x128_S16x128x128)
      (extractStridedSlice S16x128x128 ![0, 0, 0] s slices_S16x128x256_o0_0_0_S16x128x128)
      (extractStridedSlice S16x128x128 ![0, 0, 128] s slices_S16x128x256_o0_0_128_S16x128x128))

/-- The banded scores at an index. -/
theorem pick_at (fp np : Q S1x128x128) (s : T S16x128x256) (hd : Fin 16) (i j : Fin 128) :
    pick fp np s (ix3 hd i j) = if np (ix3 0 i j) = 1#1 then ⊥
      else if fp (ix3 0 i j) = 1#1 then s (ix3 hd i ⟨j.val, by omega⟩) else s (ix3 hd i ⟨128 + j.val, by omega⟩) := by
  pointwise [pick]
  rw [mask_eq]
  rfl

/-- The kernel's scores in these words. -/
theorem scores_eq (fp np : Q S1x128x128) (a b : T S4x128x256) (k2 k3 : W S256x64) (q8 q9 q10 q11 q12 q13 q14 q15 : W S128x64) :
    k0_pay6 (F := Ideal) fp np a b k2 q8 q9 q10 q11 k3 q12 q13 q14 q15
      = pick fp np (stack a b (k0_pay4 (F := Ideal) k2 q8 q9 q10 q11) (k0_pay4 (F := Ideal) k3 q12 q13 q14 q15)) := rfl

/-- The greatest of a row, for any extents. -/
theorem greatest_at {n0 n1 n2 : Nat} (x : (⟨3, ![n0, n1, n2]⟩ : Shape).Idx → EReal)
    (h : (⟨3, ![n0, n1, n2]⟩ : Shape).Reduces [2] ⟨2, ![n0, n1]⟩) (hc) (hd) (a : Fin n0) (b : Fin n1) :
    multiReduction (F := Ideal) (φ := .f32) .maximumf [2] ⟨2, ![n0, n1]⟩ x 0xFF800000#32 h hc hd (ix2 a b)
      = Finset.univ.sup fun k : Fin n2 => x (ix3 a b k) := by
  refine (multiReduction_maximumf_eq_fold (F := Ideal) (φ := .f32) x 0xFF800000#32 h hc hd (ix2 a b)).trans ?_
  refine (h.fold_fiber_r3_a2 (ix2 a b) (FloatOps.maximumf (F := Ideal) (φ := .f32)) _ x).trans ?_
  rw [show (FloatOps.ofBits .f32 0xFF800000#32 : Ideal .f32) = (⊥ : EReal) by
    show Ideal.ofBits .f32 0xFF800000#32 = ⊥
    simp [Ideal.ofBits, Ideal.ieee]]
  rfl

/-- The greatest score of each row. -/
def peak (s : T S16x128x128) : T S16x128 :=
  multiReduction .maximumf [2] S16x128 s 0xFF800000#32 reduces_S16x128x128_S16x128 (.inl rfl) rfl

/-- The greatest score at an index. -/
theorem peak_at (s : T S16x128x128) (hd : Fin 16) (i : Fin 128) : peak s (ix2 hd i) = Finset.univ.sup fun j : Fin 128 => s (ix3 hd i j) :=
  greatest_at s _ _ _ hd i

/-- The top of each row. -/
def top (s : T S16x128x128) (sk : T S16x1x1) : T S16x128x1 :=
  maximumf (shapeCast S16x128x1 (peak s) shapeCasts_S16x128_S16x128x1)
    (broadcastTo S16x128x1 sk broadcasts_S16x1x1_S16x128x1)

/-- A reshape that adds a last axis of one. -/
theorem col_at (x : T S16x128) (hd : Fin 16) (i : Fin 128) : shapeCast S16x128x1 x shapeCasts_S16x128_S16x128x1 (ix3 hd i 0) = x (ix2 hd i) := by
  pointwise

/-- The sinks spread over the rows. -/
theorem spread_at (x : T S16x1x1) (hd : Fin 16) (i : Fin 128) : broadcastTo S16x128x1 x broadcasts_S16x1x1_S16x128x1 (ix3 hd i 0) = x (ix3 hd 0 0) := by
  pointwise

/-- The greater of two arrays at an index. -/
theorem maximumf_at {S : Shape} (x y : T S) (i : S.Idx) : maximumf x y i = max (x i) (y i) := rfl

/-- The top at an index. -/
theorem top_at (s : T S16x128x128) (sk : T S16x1x1) (hd : Fin 16) (i : Fin 128) :
    top s sk (ix3 hd i 0) = max (Finset.univ.sup fun j : Fin 128 => s (ix3 hd i j)) (sk (ix3 hd 0 0)) := by
  unfold top
  refine (maximumf_at _ _ _).trans ?_
  rw [col_at, spread_at, peak_at]

/-- The kernel's top in these words. -/
theorem top_eq (fp np : Q S1x128x128) (sk : T S16x1x1) (a b : T S4x128x256) (k2 k3 : W S256x64) (q8 q9 q10 q11 q12 q13 q14 q15 : W S128x64) :
    k0_pay7 (F := Ideal) fp sk np a b k2 q8 q9 q10 q11 k3 q12 q13 q14 q15
      = top (k0_pay6 (F := Ideal) fp np a b k2 q8 q9 q10 q11 k3 q12 q13 q14 q15) sk := rfl

/-- The exponentials at an index. -/
theorem exps_at (s : T S16x128x128) (t : T S16x128x1) (hd : Fin 16) (i j : Fin 128) :
    k0_pay8 (F := Ideal) s t (ix3 hd i j) = Ideal.exp (s (ix3 hd i j) - t (ix3 hd i 0)) := by
  pointwise [k0_pay8]

/-- The reciprocal of the normaliser at an index. -/
theorem inv_at (sk : T S16x1x1) (s : T S16x128x128) (t : T S16x128x1) (hd : Fin 16) (i : Fin 128) :
    k0_pay9 (F := Ideal) sk s t (ix3 hd i 0)
      = Ideal.div 1 ((∑ j : Fin 128, Ideal.exp (s (ix3 hd i j) - t (ix3 hd i 0))) + Ideal.exp (sk (ix3 hd 0 0) - t (ix3 hd i 0))) := by
  pointwise [k0_pay9, k0_pay8]

/-- The weights of the block before. -/
theorem before_at (fp : Q S1x128x128) (s : T S16x128x128) (t : T S16x128x1) (hd : Fin 16) (i j : Fin 128) :
    k0_pay10 (F := Ideal) fp s t (ix3 hd i j) = if fp (ix3 0 i j) = 1#1 then Ideal.exp (s (ix3 hd i j) - t (ix3 hd i 0)) else 0 := by
  pointwise [k0_pay10, k0_pay8]
  rfl

/-- The weights of the block itself. -/
theorem own_at (fp : Q S1x128x128) (s : T S16x128x128) (t : T S16x128x1) (hd : Fin 16) (i j : Fin 128) :
    k0_pay11 (F := Ideal) fp s t (ix3 hd i j) = if fp (ix3 0 i j) = 1#1 then 0 else Ideal.exp (s (ix3 hd i j) - t (ix3 hd i 0)) := by
  pointwise [k0_pay11, k0_pay8]
  rfl

/-- One head's mix: the weights of the block before against its values, plus the block's own, scaled. -/
def blend (ep eo : T S16x128x128) (inv : T S16x128x1) (vp vo : W S128x128) (hd : Fin 16) (i d : Fin 128) : EReal :=
  ((∑ j : Fin 128, ep (ix3 hd i j) * vp (ix2 j d)) + ∑ j : Fin 128, eo (ix3 hd i j) * vo (ix2 j d)) * inv (ix3 hd i 0)

/-- Group 0's mix in terms of its weights. -/
def mixOf0 (ep eo : W S16x128x128) (inv : T S16x128x1) (vp vo : W S128x128) : T S512x128 :=
  mulf (addf (matmul dot_S512x128_S128x128_S512x128_1_0_0_1_n_n none (shapeCast S512x128 (extractStridedSlice S4x128x128 ![0, 0, 0] ep slices_S16x128x128_o0_0_0_S4x128x128) shapeCasts_S4x128x128_S512x128) vp (constant (F := Ideal) S512x128 .f32 0x00000000#32))
      (matmul dot_S512x128_S128x128_S512x128_1_0_0_1_n_n none (shapeCast S512x128 (extractStridedSlice S4x128x128 ![0, 0, 0] eo slices_S16x128x128_o0_0_0_S4x128x128) shapeCasts_S4x128x128_S512x128) vo (constant (F := Ideal) S512x128 .f32 0x00000000#32)))
    (broadcastTo S512x128 (shapeCast S512x1 (extractStridedSlice S4x128x1 ![0, 0, 0] inv slices_S16x128x1_o0_0_0_S4x128x1) shapeCasts_S4x128x1_S512x1) broadcasts_S512x1_S512x128)

/-- The kernel's first mix in these words. -/
theorem mix0_eq (fp : Q S1x128x128) (sk : T S16x1x1) (s : T S16x128x128) (t : T S16x128x1) (vp vo : W S128x128) :
    k0_pay12 (F := Ideal) fp sk s t vp vo = mixOf0 (k0_pay10 (F := Ideal) fp s t) (k0_pay11 (F := Ideal) fp s t) (k0_pay9 (F := Ideal) sk s t) vp vo := rfl

/-- Group 0's mix at an index. -/
theorem mix0_at (ep eo : W S16x128x128) (inv : T S16x128x1) (vp vo : W S128x128) (g : Fin 4) (i d : Fin 128) :
    mixOf0 ep eo inv vp vo (ix2 ⟨g.val * 128 + i.val, by omega⟩ d) = blend (ep) (eo) (inv) vp vo ⟨0 + g.val, by omega⟩ i d := by
  unfold blend
  pointwise [mixOf0]

/-- Group 1's mix in terms of its weights. -/
def mixOf1 (ep eo : W S16x128x128) (inv : T S16x128x1) (vp vo : W S128x128) : T S512x128 :=
  mulf (addf (matmul dot_S512x128_S128x128_S512x128_1_0_0_1_n_n none (shapeCast S512x128 (extractStridedSlice S4x128x128 ![4, 0, 0] ep slices_S16x128x128_o4_0_0_S4x128x128) shapeCasts_S4x128x128_S512x128) vp (constant (F := Ideal) S512x128 .f32 0x00000000#32))
      (matmul dot_S512x128_S128x128_S512x128_1_0_0_1_n_n none (shapeCast S512x128 (extractStridedSlice S4x128x128 ![4, 0, 0] eo slices_S16x128x128_o4_0_0_S4x128x128) shapeCasts_S4x128x128_S512x128) vo (constant (F := Ideal) S512x128 .f32 0x00000000#32)))
    (broadcastTo S512x128 (shapeCast S512x1 (extractStridedSlice S4x128x1 ![4, 0, 0] inv slices_S16x128x1_o4_0_0_S4x128x1) shapeCasts_S4x128x1_S512x1) broadcasts_S512x1_S512x128)

/-- The kernel's second mix in these words. -/
theorem mix1_eq (fp : Q S1x128x128) (s : T S16x128x128) (t inv : T S16x128x1) (vp vo : W S128x128) :
    k0_pay17 (F := Ideal) inv (k0_pay15 (F := Ideal) fp s t vp) (k0_pay16 (F := Ideal) fp s t) vo
      = mixOf1 (k0_pay10 (F := Ideal) fp s t) (k0_pay11 (F := Ideal) fp s t) inv vp vo := rfl

/-- Group 1's mix at an index. -/
theorem mix1_at (ep eo : W S16x128x128) (inv : T S16x128x1) (vp vo : W S128x128) (g : Fin 4) (i d : Fin 128) :
    mixOf1 ep eo inv vp vo (ix2 ⟨g.val * 128 + i.val, by omega⟩ d) = blend (ep) (eo) (inv) vp vo ⟨4 + g.val, by omega⟩ i d := by
  unfold blend
  pointwise [mixOf1]

/-- Group 2's mix at an index. -/
theorem mix2_at (ep eo : W S16x128x128) (inv : T S16x128x1) (vp vo : W S128x128) (g : Fin 4) (i d : Fin 128) :
    k0_pay20 (F := Ideal) inv ep eo vp vo (ix2 ⟨g.val * 128 + i.val, by omega⟩ d) = blend (ep) (eo) (inv) vp vo ⟨8 + g.val, by omega⟩ i d := by
  unfold blend
  pointwise [k0_pay20]

/-- Group 3's mix at an index. -/
theorem mix3_at (ep eo : W S16x128x128) (inv : T S16x128x1) (vp vo : W S128x128) (g : Fin 4) (i d : Fin 128) :
    k0_pay23 (F := Ideal) inv ep eo vp vo (ix2 ⟨g.val * 128 + i.val, by omega⟩ d) = blend (ep) (eo) (inv) vp vo ⟨12 + g.val, by omega⟩ i d := by
  unfold blend
  pointwise [k0_pay23]

/-- A pair of heads side by side: the first half of the columns from one, the second from the other. -/
def pair0 (low : Q S128x128) (o : T S512x128) : T S128x128 :=
  select low (extractStridedSlice S128x128 ![0, 0] o slices_S512x128_o0_0_S128x128) (extractStridedSlice S128x128 ![128, 0] o slices_S512x128_o128_0_S128x128)
/-- The group's second pair of heads. -/
def pair1 (low : Q S128x128) (o : T S512x128) : T S128x128 :=
  select low (extractStridedSlice S128x128 ![256, 0] o slices_S512x128_o256_0_S128x128) (extractStridedSlice S128x128 ![384, 0] o slices_S512x128_o384_0_S128x128)

/-- The first pair at an index. -/
theorem pair0_at (low : Q S128x128) (o : T S512x128) (i d : Fin 128) :
    pair0 low o (ix2 i d) = if low (ix2 i d) = 1#1 then o (ix2 ⟨(0 : Fin 4).val * 128 + i.val, by omega⟩ d) else o (ix2 ⟨(1 : Fin 4).val * 128 + i.val, by omega⟩ d) := by
  pointwise [pair0]
  rfl
/-- The second pair at an index. -/
theorem pair1_at (low : Q S128x128) (o : T S512x128) (i d : Fin 128) :
    pair1 low o (ix2 i d) = if low (ix2 i d) = 1#1 then o (ix2 ⟨(2 : Fin 4).val * 128 + i.val, by omega⟩ d) else o (ix2 ⟨(3 : Fin 4).val * 128 + i.val, by omega⟩ d) := by
  pointwise [pair1]
  rfl

/-- The eight pairs side by side. -/
def sheet (p0 p1 p2 p3 p4 p5 p6 p7 : T S128x128) : W S128x1024 :=
  truncf .bf16 (concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩] concatenates_S128x128_S128x128_S128x128_S128x128_S128x128_S128x128_S128x128_S128x128_S128x1024_d1 : T S128x1024) bitsLt_bf16_f32

/-- The sheet at an index. -/
theorem sheet_at (p0 p1 p2 p3 p4 p5 p6 p7 : T S128x128) (u : Fin 8) (i d : Fin 128) :
    sheet p0 p1 p2 p3 p4 p5 p6 p7 (ix2 i ⟨u.val * 128 + d.val, by omega⟩) = (![p0, p1, p2, p3, p4, p5, p6, p7] u) (ix2 i d) := by
  match u with
  | 0 =>
    pointwise [sheet]
    all_goals rw [dif_pos (by omega)]
    all_goals exact congrArg p0 (congrArg (ix2 i) (Fin.ext (by dsimp only; omega)))
  | 1 =>
    pointwise [sheet]
    all_goals rw [dif_neg (by omega), dif_pos (by omega)]
    all_goals exact congrArg p1 (congrArg (ix2 i) (Fin.ext (by dsimp only; omega)))
  | 2 =>
    pointwise [sheet]
    all_goals rw [dif_neg (by omega), dif_neg (by omega), dif_pos (by omega)]
    all_goals exact congrArg p2 (congrArg (ix2 i) (Fin.ext (by dsimp only; omega)))
  | 3 =>
    pointwise [sheet]
    all_goals rw [dif_neg (by omega), dif_neg (by omega), dif_neg (by omega), dif_pos (by omega)]
    all_goals exact congrArg p3 (congrArg (ix2 i) (Fin.ext (by dsimp only; omega)))
  | 4 =>
    pointwise [sheet]
    all_goals rw [dif_neg (by omega), dif_neg (by omega), dif_neg (by omega), dif_neg (by omega), dif_pos (by omega)]
    all_goals exact congrArg p4 (congrArg (ix2 i) (Fin.ext (by dsimp only; omega)))
  | 5 =>
    pointwise [sheet]
    all_goals rw [dif_neg (by omega), dif_neg (by omega), dif_neg (by omega), dif_neg (by omega), dif_neg (by omega), dif_pos (by omega)]
    all_goals exact congrArg p5 (congrArg (ix2 i) (Fin.ext (by dsimp only; omega)))
  | 6 =>
    pointwise [sheet]
    all_goals rw [dif_neg (by omega), dif_neg (by omega), dif_neg (by omega), dif_neg (by omega), dif_neg (by omega), dif_neg (by omega), dif_pos (by omega)]
    all_goals exact congrArg p6 (congrArg (ix2 i) (Fin.ext (by dsimp only; omega)))
  | 7 =>
    pointwise [sheet]
    all_goals rw [dif_neg (by omega), dif_neg (by omega), dif_neg (by omega), dif_neg (by omega), dif_neg (by omega), dif_neg (by omega), dif_neg (by omega)]
    all_goals exact congrArg p7 (congrArg (ix2 i) (Fin.ext (by dsimp only; omega)))

/-- The four groups' mixes laid out as the stored rows. -/
def assemble (low : Q S128x128) (ep eo : W S16x128x128) (inv : T S16x128x1) (vp vo : Fin 4 → W S128x128) : W S128x1024 :=
  sheet (pair0 low (mixOf0 ep eo inv (vp 0) (vo 0))) (pair1 low (mixOf0 ep eo inv (vp 0) (vo 0)))
    (pair0 low (mixOf1 ep eo inv (vp 1) (vo 1))) (pair1 low (mixOf1 ep eo inv (vp 1) (vo 1)))
    (pair0 low (k0_pay20 (F := Ideal) inv ep eo (vp 2) (vo 2))) (pair1 low (k0_pay20 (F := Ideal) inv ep eo (vp 2) (vo 2)))
    (pair0 low (k0_pay23 (F := Ideal) inv ep eo (vp 3) (vo 3))) (pair1 low (k0_pay23 (F := Ideal) inv ep eo (vp 3) (vo 3)))

/-- The column `u·128 + e` of the stored rows. -/
theorem assemble_col (low : Q S128x128) (ep eo : W S16x128x128) (inv : T S16x128x1) (vp vo : Fin 4 → W S128x128) (u : Fin 8) (i e : Fin 128)
    (n : Fin 1024) (hn : n.val = u.val * 128 + e.val) :
    assemble low ep eo inv vp vo (ix2 i n)
      = (![pair0 low (mixOf0 ep eo inv (vp 0) (vo 0)), pair1 low (mixOf0 ep eo inv (vp 0) (vo 0)),
          pair0 low (mixOf1 ep eo inv (vp 1) (vo 1)), pair1 low (mixOf1 ep eo inv (vp 1) (vo 1)),
          pair0 low (k0_pay20 (F := Ideal) inv ep eo (vp 2) (vo 2)), pair1 low (k0_pay20 (F := Ideal) inv ep eo (vp 2) (vo 2)),
          pair0 low (k0_pay23 (F := Ideal) inv ep eo (vp 3) (vo 3)), pair1 low (k0_pay23 (F := Ideal) inv ep eo (vp 3) (vo 3))] u) (ix2 i e) := by
  have he : u.val * 128 + e.val < 1024 := by
    clear hn
    omega
  obtain rfl : n = ⟨u.val * 128 + e.val, he⟩ := Fin.ext hn
  exact sheet_at _ _ _ _ _ _ _ _ u i e

/-- The stored rows at an index: head `4h + g`, its own half of the doubled values. -/
theorem assemble_at (ep eo : W S16x128x128) (inv : T S16x128x1) (vp vo : Fin 4 → W S128x128) (h g : Fin 4) (i : Fin 128) (d : Fin 64) :
    assemble k0_pay30 ep eo inv vp vo (ix2 i ⟨h.val * 256 + g.val * 64 + d.val, by omega⟩)
      = blend ep eo inv (vp h) (vo h) ⟨4 * h.val + g.val, by omega⟩ i ⟨g.val % 2 * 64 + d.val, by omega⟩ := by
  match h, g with
  | 0, 0 =>
    refine (assemble_col k0_pay30 ep eo inv vp vo 0 i ⟨0 + d.val, by omega⟩ _ (by simp; try omega)).trans ?_
    refine (pair0_at k0_pay30 _ i _).trans ?_
    rw [if_pos ((low_at i _).mpr (by simp))]
    exact (mix0_at ep eo inv (vp 0) (vo 0) 0 i _).trans (by congr 2)
  | 0, 1 =>
    refine (assemble_col k0_pay30 ep eo inv vp vo 0 i ⟨64 + d.val, by omega⟩ _ (by simp; try omega)).trans ?_
    refine (pair0_at k0_pay30 _ i _).trans ?_
    rw [if_neg (fun hh => absurd ((low_at i _).mp hh) (by simp))]
    exact (mix0_at ep eo inv (vp 0) (vo 0) 1 i _).trans (by congr 2)
  | 0, 2 =>
    refine (assemble_col k0_pay30 ep eo inv vp vo 1 i ⟨0 + d.val, by omega⟩ _ (by simp; try omega)).trans ?_
    refine (pair1_at k0_pay30 _ i _).trans ?_
    rw [if_pos ((low_at i _).mpr (by simp))]
    exact (mix0_at ep eo inv (vp 0) (vo 0) 2 i _).trans (by congr 2)
  | 0, 3 =>
    refine (assemble_col k0_pay30 ep eo inv vp vo 1 i ⟨64 + d.val, by omega⟩ _ (by simp; try omega)).trans ?_
    refine (pair1_at k0_pay30 _ i _).trans ?_
    rw [if_neg (fun hh => absurd ((low_at i _).mp hh) (by simp))]
    exact (mix0_at ep eo inv (vp 0) (vo 0) 3 i _).trans (by congr 2)
  | 1, 0 =>
    refine (assemble_col k0_pay30 ep eo inv vp vo 2 i ⟨0 + d.val, by omega⟩ _ (by simp; try omega)).trans ?_
    refine (pair0_at k0_pay30 _ i _).trans ?_
    rw [if_pos ((low_at i _).mpr (by simp))]
    exact (mix1_at ep eo inv (vp 1) (vo 1) 0 i _).trans (by congr 2)
  | 1, 1 =>
    refine (assemble_col k0_pay30 ep eo inv vp vo 2 i ⟨64 + d.val, by omega⟩ _ (by simp; try omega)).trans ?_
    refine (pair0_at k0_pay30 _ i _).trans ?_
    rw [if_neg (fun hh => absurd ((low_at i _).mp hh) (by simp))]
    exact (mix1_at ep eo inv (vp 1) (vo 1) 1 i _).trans (by congr 2)
  | 1, 2 =>
    refine (assemble_col k0_pay30 ep eo inv vp vo 3 i ⟨0 + d.val, by omega⟩ _ (by simp; try omega)).trans ?_
    refine (pair1_at k0_pay30 _ i _).trans ?_
    rw [if_pos ((low_at i _).mpr (by simp))]
    exact (mix1_at ep eo inv (vp 1) (vo 1) 2 i _).trans (by congr 2)
  | 1, 3 =>
    refine (assemble_col k0_pay30 ep eo inv vp vo 3 i ⟨64 + d.val, by omega⟩ _ (by simp; try omega)).trans ?_
    refine (pair1_at k0_pay30 _ i _).trans ?_
    rw [if_neg (fun hh => absurd ((low_at i _).mp hh) (by simp))]
    exact (mix1_at ep eo inv (vp 1) (vo 1) 3 i _).trans (by congr 2)
  | 2, 0 =>
    refine (assemble_col k0_pay30 ep eo inv vp vo 4 i ⟨0 + d.val, by omega⟩ _ (by simp; try omega)).trans ?_
    refine (pair0_at k0_pay30 _ i _).trans ?_
    rw [if_pos ((low_at i _).mpr (by simp))]
    exact (mix2_at ep eo inv (vp 2) (vo 2) 0 i _).trans (by congr 2)
  | 2, 1 =>
    refine (assemble_col k0_pay30 ep eo inv vp vo 4 i ⟨64 + d.val, by omega⟩ _ (by simp; try omega)).trans ?_
    refine (pair0_at k0_pay30 _ i _).trans ?_
    rw [if_neg (fun hh => absurd ((low_at i _).mp hh) (by simp))]
    exact (mix2_at ep eo inv (vp 2) (vo 2) 1 i _).trans (by congr 2)
  | 2, 2 =>
    refine (assemble_col k0_pay30 ep eo inv vp vo 5 i ⟨0 + d.val, by omega⟩ _ (by simp; try omega)).trans ?_
    refine (pair1_at k0_pay30 _ i _).trans ?_
    rw [if_pos ((low_at i _).mpr (by simp))]
    exact (mix2_at ep eo inv (vp 2) (vo 2) 2 i _).trans (by congr 2)
  | 2, 3 =>
    refine (assemble_col k0_pay30 ep eo inv vp vo 5 i ⟨64 + d.val, by omega⟩ _ (by simp; try omega)).trans ?_
    refine (pair1_at k0_pay30 _ i _).trans ?_
    rw [if_neg (fun hh => absurd ((low_at i _).mp hh) (by simp))]
    exact (mix2_at ep eo inv (vp 2) (vo 2) 3 i _).trans (by congr 2)
  | 3, 0 =>
    refine (assemble_col k0_pay30 ep eo inv vp vo 6 i ⟨0 + d.val, by omega⟩ _ (by simp; try omega)).trans ?_
    refine (pair0_at k0_pay30 _ i _).trans ?_
    rw [if_pos ((low_at i _).mpr (by simp))]
    exact (mix3_at ep eo inv (vp 3) (vo 3) 0 i _).trans (by congr 2)
  | 3, 1 =>
    refine (assemble_col k0_pay30 ep eo inv vp vo 6 i ⟨64 + d.val, by omega⟩ _ (by simp; try omega)).trans ?_
    refine (pair0_at k0_pay30 _ i _).trans ?_
    rw [if_neg (fun hh => absurd ((low_at i _).mp hh) (by simp))]
    exact (mix3_at ep eo inv (vp 3) (vo 3) 1 i _).trans (by congr 2)
  | 3, 2 =>
    refine (assemble_col k0_pay30 ep eo inv vp vo 7 i ⟨0 + d.val, by omega⟩ _ (by simp; try omega)).trans ?_
    refine (pair1_at k0_pay30 _ i _).trans ?_
    rw [if_pos ((low_at i _).mpr (by simp))]
    exact (mix3_at ep eo inv (vp 3) (vo 3) 2 i _).trans (by congr 2)
  | 3, 3 =>
    refine (assemble_col k0_pay30 ep eo inv vp vo 7 i ⟨64 + d.val, by omega⟩ _ (by simp; try omega)).trans ?_
    refine (pair1_at k0_pay30 _ i _).trans ?_
    rw [if_neg (fun hh => absurd ((low_at i _).mp hh) (by simp))]
    exact (mix3_at ep eo inv (vp 3) (vo 3) 3 i _).trans (by congr 2)

/-- The scores of one trip. -/
def tileScores (fp np : Q S1x128x128) (k : Fin 4 → W S256x64) (q : Fin 16 → W S128x64) : T S16x128x128 :=
  pick fp np (stack (k0_pay4 (F := Ideal) (k 0) (q 0) (q 1) (q 2) (q 3)) (k0_pay4 (F := Ideal) (k 1) (q 4) (q 5) (q 6) (q 7))
    (k0_pay4 (F := Ideal) (k 2) (q 8) (q 9) (q 10) (q 11)) (k0_pay4 (F := Ideal) (k 3) (q 12) (q 13) (q 14) (q 15)))

/-- All scores of a head, before the band is taken. -/
theorem all_at (k : Fin 4 → W S256x64) (q : Fin 16 → W S128x64) (h g : Fin 4) (i : Fin 128) (j : Fin 256) :
    stack (k0_pay4 (F := Ideal) (k 0) (q 0) (q 1) (q 2) (q 3)) (k0_pay4 (F := Ideal) (k 1) (q 4) (q 5) (q 6) (q 7))
      (k0_pay4 (F := Ideal) (k 2) (q 8) (q 9) (q 10) (q 11)) (k0_pay4 (F := Ideal) (k 3) (q 12) (q 13) (q 14) (q 15))
      (ix3 ⟨h.val * 4 + g.val, by omega⟩ i j)
      = ∑ c : Fin 64, q ⟨h.val * 4 + g.val, by omega⟩ (ix2 i c) * k h (ix2 j c) := by
  refine (stack_at _ _ _ _ h g i j).trans ?_
  match h with
  | 0 => exact (group_at _ _ _ _ _ g i j).trans (by match g with | 0 => rfl | 1 => rfl | 2 => rfl | 3 => rfl)
  | 1 => exact (group_at _ _ _ _ _ g i j).trans (by match g with | 0 => rfl | 1 => rfl | 2 => rfl | 3 => rfl)
  | 2 => exact (group_at _ _ _ _ _ g i j).trans (by match g with | 0 => rfl | 1 => rfl | 2 => rfl | 3 => rfl)
  | 3 => exact (group_at _ _ _ _ _ g i j).trans (by match g with | 0 => rfl | 1 => rfl | 2 => rfl | 3 => rfl)

/-- The scores of one trip at an index. -/
theorem tileScores_at (np : Q S1x128x128) (k : Fin 4 → W S256x64) (q : Fin 16 → W S128x64) (h g : Fin 4) (i j : Fin 128) :
    tileScores k0_pay31 np k q (ix3 ⟨h.val * 4 + g.val, by omega⟩ i j)
      = if np (ix3 0 i j) = 1#1 then ⊥
        else if i.val < j.val then ∑ c : Fin 64, q ⟨h.val * 4 + g.val, by omega⟩ (ix2 i c) * k h (ix2 ⟨j.val, by omega⟩ c)
        else ∑ c : Fin 64, q ⟨h.val * 4 + g.val, by omega⟩ (ix2 i c) * k h (ix2 ⟨128 + j.val, by omega⟩ c) := by
  unfold tileScores
  rw [pick_at]
  simp only [prev_at, all_at]

/-- Everything one trip of the loop stores. -/
def tile (low : Q S128x128) (fp np : Q S1x128x128) (sk : T S16x1x1) (k : Fin 4 → W S256x64) (q : Fin 16 → W S128x64) (vp vo : Fin 4 → W S128x128) : W S128x1024 :=
  assemble low (k0_pay10 (F := Ideal) fp (tileScores fp np k q) (top (tileScores fp np k q) sk))
    (k0_pay11 (F := Ideal) fp (tileScores fp np k q) (top (tileScores fp np k q) sk))
    (k0_pay9 (F := Ideal) sk (tileScores fp np k q) (top (tileScores fp np k q) sk)) vp vo

/-- A row's result from its scores `s`, its sink `z` and the two columns of values: the columns past the row's own place
    belong to the block before. -/
def rowOut (i : Fin 128) (s : Fin 128 → EReal) (z : EReal) (vp vo : Fin 128 → EReal) : EReal :=
  ((∑ j : Fin 128, (if i.val < j.val then Ideal.exp (s j - max (Finset.univ.sup s) z) else 0) * vp j)
      + ∑ j : Fin 128, (if i.val < j.val then 0 else Ideal.exp (s j - max (Finset.univ.sup s) z)) * vo j)
    * Ideal.div 1 ((∑ j : Fin 128, Ideal.exp (s j - max (Finset.univ.sup s) z)) + Ideal.exp (z - max (Finset.univ.sup s) z))

/-- What one trip stores, at an index. -/
theorem tile_at (np : Q S1x128x128) (sk : T S16x1x1) (k : Fin 4 → W S256x64) (q : Fin 16 → W S128x64) (vp vo : Fin 4 → W S128x128)
    (h g : Fin 4) (i : Fin 128) (d : Fin 64) :
    tile k0_pay30 k0_pay31 np sk k q vp vo (ix2 i ⟨h.val * 256 + g.val * 64 + d.val, by omega⟩)
      = rowOut i (fun j => tileScores k0_pay31 np k q (ix3 ⟨h.val * 4 + g.val, by omega⟩ i j)) (sk (ix3 ⟨h.val * 4 + g.val, by omega⟩ 0 0))
          (fun j => vp h (ix2 j ⟨g.val % 2 * 64 + d.val, by omega⟩)) (fun j => vo h (ix2 j ⟨g.val % 2 * 64 + d.val, by omega⟩)) := by
  unfold tile
  rw [assemble_at, show (⟨4 * h.val + g.val, by omega⟩ : Fin 16) = ⟨h.val * 4 + g.val, by omega⟩ from Fin.ext (by dsimp only; omega)]
  unfold blend rowOut
  rw [inv_at, top_at]
  simp only [before_at, own_at, prev_at, top_at]

/-- Both bits of a conjunction. -/
theorem both_iff (a b : BitVec 1) : IntOp.andi a b = 1#1 ↔ a = 1#1 ∧ b = 1#1 := by
  revert a b
  decide

/-- Where the block before does not exist: the sequence's first block. -/
theorem none_at (v0 : BitVec 1) (t : Fin k0_t1_loop.trips) (i j : Fin 128) :
    k0_pay3 v0 k0_pay31 0#32 1#32 t (ix3 0 i j) = 1#1 ↔ i.val < j.val ∧ v0 = 1#1 ∧ t.val = 0 := by
  have h : k0_pay3 v0 k0_pay31 0#32 1#32 t (ix3 0 i j)
      = IntOp.andi (k0_pay31 (ix3 0 i j)) (IntOp.andi v0 (IntOp.cmpi .eq (Scf.iv 0#32 1#32 t) 0#32)) := by
    pointwise [k0_pay3]
    rfl
  rw [h, ← prev_at i j, both_iff, both_iff]
  have ht : t.val < 8 := lt_of_lt_of_le t.isLt k0_t1_abs.2.1
  have hv : Scf.iv 0#32 1#32 t.val = BitVec.ofNat 32 t.val := by simp [Scf.iv]
  rw [hv]
  have hz : IntOp.cmpi .eq (BitVec.ofNat 32 t.val) 0#32 = 1#1 ↔ t.val = 0 := by
    generalize t.val = n at ht ⊢
    word_omega
  rw [hz]

end Cert.AttnIdeal.Own

end
-- ==== Proof.AttnStore.lean ====
/-
  The attention call's kernel: what one grid point leaves in its block, read at an index.
-/
module

public import proofs.«01_k».proof.Proof.AttnTile
public import Idealize.ShloMosaic.Lib.WholeRead
public import Idealize.ShloMosaic.Lib.WritesUnit

@[expose] public section

set_option maxRecDepth 16384

noncomputable section

open Idealize.ShloMosaic Idealize.ShloMosaic.TcCoe Idealize.SL.Sem

namespace Cert.AttnIdeal.Own

open Cert.AttnIdeal Cert.AttnIdeal.Gen

/-- Where a rectangle's entry lies. -/
theorem idx_at {m n m' n' : Nat} {off : Fin 2 → Nat} (inb) (a b : Nat) (h : off = ![a, b]) (r : Fin m') (c : Fin n')
    (hr : a + r.val < m) (hc : b + c.val < n) :
    (Rect.unit (s := (⟨2, ![m, n]⟩ : Shape)) off (⟨2, ![m', n']⟩ : Shape).size inb).toLoadRect.idx (ix2 r c)
      = ix2 ⟨a + r.val, hr⟩ ⟨b + c.val, hc⟩ := by
  subst h
  funext x
  match x with
  | 0 => exact Fin.ext (by show a + 1 * r.val = a + r.val; omega)
  | 1 => exact Fin.ext (by show b + 1 * c.val = b + c.val; omega)

/-- A load through a rectangle at an index. -/
theorem load_at {m n m' n' : Nat} {e : EltTy} {κ : Kind} {sp : Space} (v : View sig κ sp (⟨2, ![m, n]⟩ : Shape) e) (X : BufTy.Contents (Elt Ideal) v.ty) {off : Fin 2 → Nat} (inb) (a b : Nat) (h : off = ![a, b]) (r : Fin m') (c : Fin n')
    (hr : a + r.val < m) (col : Fin n) (hc : col.val = b + c.val) :
    View.readAt (Elt Ideal) v (Rect.unit (s := (⟨2, ![m, n]⟩ : Shape)) off (⟨2, ![m', n']⟩ : Shape).size inb).toLoadRect X (ix2 r c)
      = v.read (Elt Ideal) X (ix2 ⟨a + r.val, hr⟩ col) := by
  have hb : b + c.val < n := hc ▸ col.isLt
  obtain rfl : col = ⟨b + c.val, hb⟩ := Fin.ext hc
  exact congrArg (v.read (Elt Ideal) X) (idx_at inb a b h r c hr hb)

/-- The keys a trip loads. -/
def kLoads (arg7 : Memref sig .tc .vmem S1152x256 .bf16) (X7 : BufTy.Contents (Elt Ideal) arg7.view.ty) (k : Fin k0_t1_loop.trips) : Fin 4 → W S256x64 :=
  ![View.readAt (Elt Ideal) arg7.view (Rect.unit (s := S1152x256) (k0_off1 k) S256x64.size (k0_off1_inb k)).toLoadRect X7, View.readAt (Elt Ideal) arg7.view (Rect.unit (s := S1152x256) (k0_off6 k) S256x64.size (k0_off6_inb k)).toLoadRect X7, View.readAt (Elt Ideal) arg7.view (Rect.unit (s := S1152x256) (k0_off11 k) S256x64.size (k0_off11_inb k)).toLoadRect X7, View.readAt (Elt Ideal) arg7.view (Rect.unit (s := S1152x256) (k0_off16 k) S256x64.size (k0_off16_inb k)).toLoadRect X7]

/-- The queries a trip loads. -/
def qLoads (arg3 : Memref sig .tc .vmem S1024x1024 .bf16) (X3 : BufTy.Contents (Elt Ideal) arg3.view.ty) (k : Fin k0_t1_loop.trips) : Fin 16 → W S128x64 :=
  ![View.readAt (Elt Ideal) arg3.view (Rect.unit (s := S1024x1024) (k0_off2 k) S128x64.size (k0_off2_inb k)).toLoadRect X3, View.readAt (Elt Ideal) arg3.view (Rect.unit (s := S1024x1024) (k0_off3 k) S128x64.size (k0_off3_inb k)).toLoadRect X3, View.readAt (Elt Ideal) arg3.view (Rect.unit (s := S1024x1024) (k0_off4 k) S128x64.size (k0_off4_inb k)).toLoadRect X3, View.readAt (Elt Ideal) arg3.view (Rect.unit (s := S1024x1024) (k0_off5 k) S128x64.size (k0_off5_inb k)).toLoadRect X3, View.readAt (Elt Ideal) arg3.view (Rect.unit (s := S1024x1024) (k0_off7 k) S128x64.size (k0_off7_inb k)).toLoadRect X3, View.readAt (Elt Ideal) arg3.view (Rect.unit (s := S1024x1024) (k0_off8 k) S128x64.size (k0_off8_inb k)).toLoadRect X3, View.readAt (Elt Ideal) arg3.view (Rect.unit (s := S1024x1024) (k0_off9 k) S128x64.size (k0_off9_inb k)).toLoadRect X3, View.readAt (Elt Ideal) arg3.view (Rect.unit (s := S1024x1024) (k0_off10 k) S128x64.size (k0_off10_inb k)).toLoadRect X3, View.readAt (Elt Ideal) arg3.view (Rect.unit (s := S1024x1024) (k0_off12 k) S128x64.size (k0_off12_inb k)).toLoadRect X3, View.readAt (Elt Ideal) arg3.view (Rect.unit (s := S1024x1024) (k0_off13 k) S128x64.size (k0_off13_inb k)).toLoadRect X3, View.readAt (Elt Ideal) arg3.view (Rect.unit (s := S1024x1024) (k0_off14 k) S128x64.size (k0_off14_inb k)).toLoadRect X3, View.readAt (Elt Ideal) arg3.view (Rect.unit (s := S1024x1024) (k0_off15 k) S128x64.size (k0_off15_inb k)).toLoadRect X3, View.readAt (Elt Ideal) arg3.view (Rect.unit (s := S1024x1024) (k0_off17 k) S128x64.size (k0_off17_inb k)).toLoadRect X3, View.readAt (Elt Ideal) arg3.view (Rect.unit (s := S1024x1024) (k0_off18 k) S128x64.size (k0_off18_inb k)).toLoadRect X3, View.readAt (Elt Ideal) arg3.view (Rect.unit (s := S1024x1024) (k0_off19 k) S128x64.size (k0_off19_inb k)).toLoadRect X3, View.readAt (Elt Ideal) arg3.view (Rect.unit (s := S1024x1024) (k0_off20 k) S128x64.size (k0_off20_inb k)).toLoadRect X3]

/-- The values of the block before a trip loads. -/
def pLoads (arg8 : Memref sig .tc .vmem S1152x512 .bf16) (X8 : BufTy.Contents (Elt Ideal) arg8.view.ty) (k : Fin k0_t1_loop.trips) : Fin 4 → W S128x128 :=
  ![View.readAt (Elt Ideal) arg8.view (Rect.unit (s := S1152x512) (k0_off21 k) S128x128.size (k0_off21_inb k)).toLoadRect X8, View.readAt (Elt Ideal) arg8.view (Rect.unit (s := S1152x512) (k0_off23 k) S128x128.size (k0_off23_inb k)).toLoadRect X8, View.readAt (Elt Ideal) arg8.view (Rect.unit (s := S1152x512) (k0_off25 k) S128x128.size (k0_off25_inb k)).toLoadRect X8, View.readAt (Elt Ideal) arg8.view (Rect.unit (s := S1152x512) (k0_off27 k) S128x128.size (k0_off27_inb k)).toLoadRect X8]

/-- The values of the block itself a trip loads. -/
def oLoads (arg8 : Memref sig .tc .vmem S1152x512 .bf16) (X8 : BufTy.Contents (Elt Ideal) arg8.view.ty) (k : Fin k0_t1_loop.trips) : Fin 4 → W S128x128 :=
  ![View.readAt (Elt Ideal) arg8.view (Rect.unit (s := S1152x512) (k0_off22 k) S128x128.size (k0_off22_inb k)).toLoadRect X8, View.readAt (Elt Ideal) arg8.view (Rect.unit (s := S1152x512) (k0_off24 k) S128x128.size (k0_off24_inb k)).toLoadRect X8, View.readAt (Elt Ideal) arg8.view (Rect.unit (s := S1152x512) (k0_off26 k) S128x128.size (k0_off26_inb k)).toLoadRect X8, View.readAt (Elt Ideal) arg8.view (Rect.unit (s := S1152x512) (k0_off28 k) S128x128.size (k0_off28_inb k)).toLoadRect X8]

/-- Those loads at an index. -/
theorem kLoads_at (arg7 : Memref sig .tc .vmem S1152x256 .bf16) (X7 : BufTy.Contents (Elt Ideal) arg7.view.ty) (k : Fin k0_t1_loop.trips) (h : Fin 4)
    (j : Fin 256) (c : Fin 64) (hr : 128 * k.val + j.val < 1152) :
    kLoads arg7 X7 k h (ix2 j c) = arg7.view.read (Elt Ideal) X7 (ix2 ⟨128 * k.val + j.val, hr⟩ ⟨64 * h.val + c.val, by omega⟩) := by
  fin_cases h
  · exact load_at arg7.view X7 (k0_off1_inb k) (128 * k.val) 0 (k0_off1_eq k) j c hr ⟨64 * 0 + c.val, by omega⟩ (by simp)
  · exact load_at arg7.view X7 (k0_off6_inb k) (128 * k.val) 64 (k0_off6_eq k) j c hr ⟨64 * 1 + c.val, by omega⟩ (by simp)
  · exact load_at arg7.view X7 (k0_off11_inb k) (128 * k.val) 128 (k0_off11_eq k) j c hr ⟨64 * 2 + c.val, by omega⟩ (by simp)
  · exact load_at arg7.view X7 (k0_off16_inb k) (128 * k.val) 192 (k0_off16_eq k) j c hr ⟨64 * 3 + c.val, by omega⟩ (by simp)

/-- Those loads at an index. -/
theorem qLoads_at (arg3 : Memref sig .tc .vmem S1024x1024 .bf16) (X3 : BufTy.Contents (Elt Ideal) arg3.view.ty) (k : Fin k0_t1_loop.trips) (h : Fin 16)
    (j : Fin 128) (c : Fin 64) (hr : 128 * k.val + j.val < 1024) :
    qLoads arg3 X3 k h (ix2 j c) = arg3.view.read (Elt Ideal) X3 (ix2 ⟨128 * k.val + j.val, hr⟩ ⟨64 * h.val + c.val, by omega⟩) := by
  fin_cases h
  · exact load_at arg3.view X3 (k0_off2_inb k) (128 * k.val) 0 (k0_off2_eq k) j c hr ⟨64 * 0 + c.val, by omega⟩ (by simp)
  · exact load_at arg3.view X3 (k0_off3_inb k) (128 * k.val) 64 (k0_off3_eq k) j c hr ⟨64 * 1 + c.val, by omega⟩ (by simp)
  · exact load_at arg3.view X3 (k0_off4_inb k) (128 * k.val) 128 (k0_off4_eq k) j c hr ⟨64 * 2 + c.val, by omega⟩ (by simp)
  · exact load_at arg3.view X3 (k0_off5_inb k) (128 * k.val) 192 (k0_off5_eq k) j c hr ⟨64 * 3 + c.val, by omega⟩ (by simp)
  · exact load_at arg3.view X3 (k0_off7_inb k) (128 * k.val) 256 (k0_off7_eq k) j c hr ⟨64 * 4 + c.val, by omega⟩ (by simp)
  · exact load_at arg3.view X3 (k0_off8_inb k) (128 * k.val) 320 (k0_off8_eq k) j c hr ⟨64 * 5 + c.val, by omega⟩ (by simp)
  · exact load_at arg3.view X3 (k0_off9_inb k) (128 * k.val) 384 (k0_off9_eq k) j c hr ⟨64 * 6 + c.val, by omega⟩ (by simp)
  · exact load_at arg3.view X3 (k0_off10_inb k) (128 * k.val) 448 (k0_off10_eq k) j c hr ⟨64 * 7 + c.val, by omega⟩ (by simp)
  · exact load_at arg3.view X3 (k0_off12_inb k) (128 * k.val) 512 (k0_off12_eq k) j c hr ⟨64 * 8 + c.val, by omega⟩ (by simp)
  · exact load_at arg3.view X3 (k0_off13_inb k) (128 * k.val) 576 (k0_off13_eq k) j c hr ⟨64 * 9 + c.val, by omega⟩ (by simp)
  · exact load_at arg3.view X3 (k0_off14_inb k) (128 * k.val) 640 (k0_off14_eq k) j c hr ⟨64 * 10 + c.val, by omega⟩ (by simp)
  · exact load_at arg3.view X3 (k0_off15_inb k) (128 * k.val) 704 (k0_off15_eq k) j c hr ⟨64 * 11 + c.val, by omega⟩ (by simp)
  · exact load_at arg3.view X3 (k0_off17_inb k) (128 * k.val) 768 (k0_off17_eq k) j c hr ⟨64 * 12 + c.val, by omega⟩ (by simp)
  · exact load_at arg3.view X3 (k0_off18_inb k) (128 * k.val) 832 (k0_off18_eq k) j c hr ⟨64 * 13 + c.val, by omega⟩ (by simp)
  · exact load_at arg3.view X3 (k0_off19_inb k) (128 * k.val) 896 (k0_off19_eq k) j c hr ⟨64 * 14 + c.val, by omega⟩ (by simp)
  · exact load_at arg3.view X3 (k0_off20_inb k) (128 * k.val) 960 (k0_off20_eq k) j c hr ⟨64 * 15 + c.val, by omega⟩ (by simp)

/-- Those loads at an index. -/
theorem pLoads_at (arg8 : Memref sig .tc .vmem S1152x512 .bf16) (X8 : BufTy.Contents (Elt Ideal) arg8.view.ty) (k : Fin k0_t1_loop.trips) (h : Fin 4)
    (j : Fin 128) (c : Fin 128) (hr : 128 * k.val + j.val < 1152) :
    pLoads arg8 X8 k h (ix2 j c) = arg8.view.read (Elt Ideal) X8 (ix2 ⟨128 * k.val + j.val, hr⟩ ⟨128 * h.val + c.val, by omega⟩) := by
  fin_cases h
  · exact load_at arg8.view X8 (k0_off21_inb k) (128 * k.val) 0 (k0_off21_eq k) j c hr ⟨128 * 0 + c.val, by omega⟩ (by simp)
  · exact load_at arg8.view X8 (k0_off23_inb k) (128 * k.val) 128 (k0_off23_eq k) j c hr ⟨128 * 1 + c.val, by omega⟩ (by simp)
  · exact load_at arg8.view X8 (k0_off25_inb k) (128 * k.val) 256 (k0_off25_eq k) j c hr ⟨128 * 2 + c.val, by omega⟩ (by simp)
  · exact load_at arg8.view X8 (k0_off27_inb k) (128 * k.val) 384 (k0_off27_eq k) j c hr ⟨128 * 3 + c.val, by omega⟩ (by simp)

/-- Those loads at an index. -/
theorem oLoads_at (arg8 : Memref sig .tc .vmem S1152x512 .bf16) (X8 : BufTy.Contents (Elt Ideal) arg8.view.ty) (k : Fin k0_t1_loop.trips) (h : Fin 4)
    (j : Fin 128) (c : Fin 128) (hr : (128 * k.val + 128) + j.val < 1152) :
    oLoads arg8 X8 k h (ix2 j c) = arg8.view.read (Elt Ideal) X8 (ix2 ⟨(128 * k.val + 128) + j.val, hr⟩ ⟨128 * h.val + c.val, by omega⟩) := by
  fin_cases h
  · exact load_at arg8.view X8 (k0_off22_inb k) ((128 * k.val + 128)) 0 (k0_off22_eq k) j c hr ⟨128 * 0 + c.val, by omega⟩ (by simp)
  · exact load_at arg8.view X8 (k0_off24_inb k) ((128 * k.val + 128)) 128 (k0_off24_eq k) j c hr ⟨128 * 1 + c.val, by omega⟩ (by simp)
  · exact load_at arg8.view X8 (k0_off26_inb k) ((128 * k.val + 128)) 256 (k0_off26_eq k) j c hr ⟨128 * 2 + c.val, by omega⟩ (by simp)
  · exact load_at arg8.view X8 (k0_off28_inb k) ((128 * k.val + 128)) 384 (k0_off28_eq k) j c hr ⟨128 * 3 + c.val, by omega⟩ (by simp)

set_option maxHeartbeats 4000000 in
/-- One trip stores one piece, the tile of what it loads. -/
theorem trip_piece (𝒱 : Variants) (c : Dev nD) (bd : Option 𝒱.V) (i : grid0.Coords) (arg2 : Memref sig .tc .smem S16 .f32) (harg2 : arg2.IsWhole) (arg3 : Memref sig .tc .vmem S1024x1024 .bf16) (harg3 : arg3.IsWhole) (arg4 : Memref sig .tc .vmem S1024x512 .f32) (harg4 : arg4.IsWhole) (arg5 : Memref sig .tc .vmem S128x512 .f32) (harg5 : arg5.IsWhole) (arg6 : Memref sig .tc .vmem S1024x1024 .bf16) (harg6 : arg6.IsWhole) (arg7 : Memref sig .tc .vmem S1152x256 .bf16) (harg7 : arg7.IsWhole) (arg8 : Memref sig .tc .vmem S1152x512 .bf16) (harg8 : arg8.IsWhole) (v0 : BitVec 1) (v41 : IVec S128x128 1) (v45 : IVec S1x128x128 1) (v46 : IVec S16x1x1 32) (v122 : FVec Ideal S16x1x1 .f32) (v123 : IVec S16x1x1 32) (v125 : Elt Ideal .f32) (X3 : BufTy.Contents (Elt Ideal) arg3.view.ty) (X7 : BufTy.Contents (Elt Ideal) arg7.view.ty) (X8 : BufTy.Contents (Elt Ideal) arg8.view.ty) (k : Fin k0_t1_loop.trips) :
    (trip_k0_t1 (F := Ideal) 𝒱 c bd i arg2 harg2 arg3 harg3 arg4 harg4 arg5 harg5 arg6 harg6 arg7 harg7 arg8 harg8 v0 v41 v45 v46 v122 v123 v125 X3 X7 X8 k).1
      = [⟨Rect.unit (k0_off29 k) S128x1024.size (k0_off29_inb k),
          tile v41 v45 (k0_pay3 v0 v45 0#32 1#32 k) (k0_pay1 (F := Ideal) v46 v122 v123 v125) (kLoads arg7 X7 k) (qLoads arg3 X3 k) (pLoads arg8 X8 k) (oLoads arg8 X8 k)⟩] := by
  unfold trip_k0_t1
  sl_kernel_rfl

end Cert.AttnIdeal.Own

end
-- ==== Proof.AttnFill.lean ====
/-
  The attention call's kernel: the sinks it gathers and the two buffers it fills before the blocks.
-/
module

public import proofs.«01_k».proof.Proof.AttnStore

@[expose] public section

set_option maxRecDepth 16384

noncomputable section

open Idealize.ShloMosaic Idealize.ShloMosaic.TcCoe Idealize.SL.Sem

namespace Cert.AttnIdeal.Own

open Cert.AttnIdeal Cert.AttnIdeal.Gen

/-- The sixteen sinks, one per head. -/
def sinks (x : Fin 16 → EReal) : T S16x1x1 :=
  k0_pay1 (F := Ideal) (iota .tc S16x1x1 32 [0] iota_S16x1x1_d0_w32)
    (k0_pay34 (F := Ideal) (iota .tc S16x1x1 32 [0] iota_S16x1x1_d0_w32) (k0_pay32 (F := Ideal) (x 0) (x 1) (x 2) (x 3) (x 4) (x 5))
      k0_pay33 (x 6) (x 7) (x 8) (x 9) (x 10) (x 11) (x 12) (x 13) (x 14)) k0_pay35 (x 15)

/-- A head's sink. -/
theorem sinks_at (x : Fin 16 → EReal) (h : Fin 16) : sinks x (ix3 h 0 0) = x h := by
  fin_cases h
  all_goals pointwise [sinks, k0_pay1, k0_pay34, k0_pay32, k0_pay33, k0_pay35]
  all_goals rfl

/-- The keys of the block before, as stored. -/
theorem pay25_at (v : T S128x256) (r : Fin 128) (c : Fin 256) : k0_pay25 (F := Ideal) v (ix2 r c) = v (ix2 r c) := by
  pointwise [k0_pay25]
  try rfl

/-- The keys of the rows themselves, as stored. -/
theorem pay27_at (v : T S1024x256) (r : Fin 1024) (c : Fin 256) : k0_pay27 (F := Ideal) v (ix2 r c) = v (ix2 r c) := by
  pointwise [k0_pay27]
  try rfl

/-- The values of the block before, as stored: every head's columns twice. -/
theorem pay26_at (v : T S128x256) (r : Fin 128) (u : Fin 8) (d : Fin 64) :
    k0_pay26 (F := Ideal) v (ix2 r ⟨u.val * 64 + d.val, by omega⟩) = v (ix2 r ⟨u.val / 2 * 64 + d.val, by omega⟩) := by
  match u with
  | 0 =>
    pointwise [k0_pay26]
    all_goals rw [dif_pos (by omega)]
    all_goals exact congrArg v (congrArg (ix2 r) (Fin.ext (by dsimp only; omega)))
  | 1 =>
    pointwise [k0_pay26]
    all_goals rw [dif_neg (by omega), dif_pos (by omega)]
    all_goals exact congrArg v (congrArg (ix2 r) (Fin.ext (by dsimp only; omega)))
  | 2 =>
    pointwise [k0_pay26]
    all_goals rw [dif_neg (by omega), dif_neg (by omega), dif_pos (by omega)]
    all_goals exact congrArg v (congrArg (ix2 r) (Fin.ext (by dsimp only; omega)))
  | 3 =>
    pointwise [k0_pay26]
    all_goals rw [dif_neg (by omega), dif_neg (by omega), dif_neg (by omega), dif_pos (by omega)]
    all_goals exact congrArg v (congrArg (ix2 r) (Fin.ext (by dsimp only; omega)))
  | 4 =>
    pointwise [k0_pay26]
    all_goals rw [dif_neg (by omega), dif_neg (by omega), dif_neg (by omega), dif_neg (by omega), dif_pos (by omega)]
    all_goals exact congrArg v (congrArg (ix2 r) (Fin.ext (by dsimp only; omega)))
  | 5 =>
    pointwise [k0_pay26]
    all_goals rw [dif_neg (by omega), dif_neg (by omega), dif_neg (by omega), dif_neg (by omega), dif_neg (by omega), dif_pos (by omega)]
    all_goals exact congrArg v (congrArg (ix2 r) (Fin.ext (by dsimp only; omega)))
  | 6 =>
    pointwise [k0_pay26]
    all_goals rw [dif_neg (by omega), dif_neg (by omega), dif_neg (by omega), dif_neg (by omega), dif_neg (by omega), dif_neg (by omega), dif_pos (by omega)]
    all_goals exact congrArg v (congrArg (ix2 r) (Fin.ext (by dsimp only; omega)))
  | 7 =>
    pointwise [k0_pay26]
    all_goals rw [dif_neg (by omega), dif_neg (by omega), dif_neg (by omega), dif_neg (by omega), dif_neg (by omega), dif_neg (by omega), dif_neg (by omega)]
    all_goals exact congrArg v (congrArg (ix2 r) (Fin.ext (by dsimp only; omega)))

/-- The values of the rows themselves, as stored: every head's columns twice. -/
theorem pay29_at (v : T S1024x256) (r : Fin 1024) (u : Fin 8) (d : Fin 64) :
    k0_pay29 (F := Ideal) (k0_pay28 (F := Ideal) v) (ix2 r ⟨u.val * 64 + d.val, by omega⟩) = v (ix2 r ⟨u.val / 2 * 64 + d.val, by omega⟩) := by
  match u with
  | 0 =>
    pointwise [k0_pay29, k0_pay28]
    all_goals rw [dif_pos (by omega)]
    all_goals exact congrArg v (congrArg (ix2 r) (Fin.ext (by dsimp only; omega)))
  | 1 =>
    pointwise [k0_pay29, k0_pay28]
    all_goals rw [dif_neg (by omega), dif_pos (by omega)]
    all_goals exact congrArg v (congrArg (ix2 r) (Fin.ext (by dsimp only; omega)))
  | 2 =>
    pointwise [k0_pay29, k0_pay28]
    all_goals rw [dif_neg (by omega), dif_neg (by omega), dif_pos (by omega)]
    all_goals exact congrArg v (congrArg (ix2 r) (Fin.ext (by dsimp only; omega)))
  | 3 =>
    pointwise [k0_pay29, k0_pay28]
    all_goals rw [dif_neg (by omega), dif_neg (by omega), dif_neg (by omega), dif_pos (by omega)]
    all_goals exact congrArg v (congrArg (ix2 r) (Fin.ext (by dsimp only; omega)))
  | 4 =>
    pointwise [k0_pay29, k0_pay28]
    all_goals rw [dif_neg (by omega), dif_neg (by omega), dif_neg (by omega), dif_neg (by omega), dif_pos (by omega)]
    all_goals exact congrArg v (congrArg (ix2 r) (Fin.ext (by dsimp only; omega)))
  | 5 =>
    pointwise [k0_pay29, k0_pay28]
    all_goals rw [dif_neg (by omega), dif_neg (by omega), dif_neg (by omega), dif_neg (by omega), dif_neg (by omega), dif_pos (by omega)]
    all_goals exact congrArg v (congrArg (ix2 r) (Fin.ext (by dsimp only; omega)))
  | 6 =>
    pointwise [k0_pay29, k0_pay28]
    all_goals rw [dif_neg (by omega), dif_neg (by omega), dif_neg (by omega), dif_neg (by omega), dif_neg (by omega), dif_neg (by omega), dif_pos (by omega)]
    all_goals exact congrArg v (congrArg (ix2 r) (Fin.ext (by dsimp only; omega)))
  | 7 =>
    pointwise [k0_pay29, k0_pay28]
    all_goals rw [dif_neg (by omega), dif_neg (by omega), dif_neg (by omega), dif_neg (by omega), dif_neg (by omega), dif_neg (by omega), dif_neg (by omega)]
    all_goals exact congrArg v (congrArg (ix2 r) (Fin.ext (by dsimp only; omega)))

end Cert.AttnIdeal.Own

end
-- ==== Proof.AttnBlock.lean ====
/-
  The attention call's kernel: the block one grid point leaves, read at an index of the rows it was given.
-/
module

public import proofs.«01_k».proof.Proof.AttnFill

@[expose] public section

set_option maxRecDepth 16384

noncomputable section

open Idealize.ShloMosaic Idealize.ShloMosaic.TcCoe Idealize.SL.Sem

namespace Cert.AttnIdeal.Own

open Cert.AttnIdeal Cert.AttnIdeal.Gen

/-- The loop runs eight times. -/
theorem trips_eq : k0_t1_loop.trips = 8 := by decide +kernel

/-- One sink, loaded. -/
theorem sinkLoad_at (arg2 : Memref sig .tc .smem S16 .f32) (harg2 : arg2.IsWhole) (x0 : T S16) {n : Nat} (hn : n < 16) {off : Fin 1 → Nat} (inb) (h : off = ![n]) (x : S1.Idx) :
    View.readAt (Elt Ideal) arg2.view (Rect.unit (s := S16) off S1.size inb).toLoadRect (harg2.unread x0) x = x0 (ix1 ⟨n, hn⟩) := by
  refine (Memref.IsWhole.readAt_unread (Val := Elt Ideal) harg2 x0 (Rect.unit (s := S16) off S1.size inb).toLoadRect x).trans ?_
  refine congrArg (f := x0) ?_
  subst h
  funext a
  match a with
  | 0 =>
    have h0 : (x 0).val < 1 := (x 0).isLt
    exact Fin.ext (by show n + 1 * (x 0).val = n; omega)

/-- The sinks a point gathers are the ones it was given. -/
theorem sinks_loaded (c : Dev nD) (arg2 : Memref sig .tc .smem S16 .f32) (harg2 : arg2.IsWhole) (x0 : T S16) :
    k0_pay1 (F := Ideal) kernelRun0_A.sl.v46 (kernelRun0_A.sl.r_17 c arg2 harg2 x0) k0_pay35 (kernelRun0_A.sl.r_18 c arg2 harg2 x0)
      = sinks fun h => x0 (ix1 h) := by
  have e0 : kernelRun0_A.sl.r_1 (F := Ideal) c arg2 harg2 x0 = x0 (ix1 0) := sinkLoad_at arg2 harg2 x0 (by decide) inb_S16_S1_0 rfl _
  have e1 : kernelRun0_A.sl.r_2 (F := Ideal) c arg2 harg2 x0 = x0 (ix1 1) := sinkLoad_at arg2 harg2 x0 (by decide) inb_S16_S1_1 rfl _
  have e2 : kernelRun0_A.sl.r_3 (F := Ideal) c arg2 harg2 x0 = x0 (ix1 2) := sinkLoad_at arg2 harg2 x0 (by decide) inb_S16_S1_2 rfl _
  have e3 : kernelRun0_A.sl.r_4 (F := Ideal) c arg2 harg2 x0 = x0 (ix1 3) := sinkLoad_at arg2 harg2 x0 (by decide) inb_S16_S1_3 rfl _
  have e4 : kernelRun0_A.sl.r_5 (F := Ideal) c arg2 harg2 x0 = x0 (ix1 4) := sinkLoad_at arg2 harg2 x0 (by decide) inb_S16_S1_4 rfl _
  have e5 : kernelRun0_A.sl.r_6 (F := Ideal) c arg2 harg2 x0 = x0 (ix1 5) := sinkLoad_at arg2 harg2 x0 (by decide) inb_S16_S1_5 rfl _
  have e6 : kernelRun0_A.sl.r_7 (F := Ideal) c arg2 harg2 x0 = x0 (ix1 6) := sinkLoad_at arg2 harg2 x0 (by decide) inb_S16_S1_6 rfl _
  have e7 : kernelRun0_A.sl.r_9 (F := Ideal) c arg2 harg2 x0 = x0 (ix1 7) := sinkLoad_at arg2 harg2 x0 (by decide) inb_S16_S1_7 rfl _
  have e8 : kernelRun0_A.sl.r_10 (F := Ideal) c arg2 harg2 x0 = x0 (ix1 8) := sinkLoad_at arg2 harg2 x0 (by decide) inb_S16_S1_8 rfl _
  have e9 : kernelRun0_A.sl.r_11 (F := Ideal) c arg2 harg2 x0 = x0 (ix1 9) := sinkLoad_at arg2 harg2 x0 (by decide) inb_S16_S1_9 rfl _
  have e10 : kernelRun0_A.sl.r_12 (F := Ideal) c arg2 harg2 x0 = x0 (ix1 10) := sinkLoad_at arg2 harg2 x0 (by decide) inb_S16_S1_10 rfl _
  have e11 : kernelRun0_A.sl.r_13 (F := Ideal) c arg2 harg2 x0 = x0 (ix1 11) := sinkLoad_at arg2 harg2 x0 (by decide) inb_S16_S1_11 rfl _
  have e12 : kernelRun0_A.sl.r_14 (F := Ideal) c arg2 harg2 x0 = x0 (ix1 12) := sinkLoad_at arg2 harg2 x0 (by decide) inb_S16_S1_12 rfl _
  have e13 : kernelRun0_A.sl.r_15 (F := Ideal) c arg2 harg2 x0 = x0 (ix1 13) := sinkLoad_at arg2 harg2 x0 (by decide) inb_S16_S1_13 rfl _
  have e14 : kernelRun0_A.sl.r_16 (F := Ideal) c arg2 harg2 x0 = x0 (ix1 14) := sinkLoad_at arg2 harg2 x0 (by decide) inb_S16_S1_14 rfl _
  have e15 : kernelRun0_A.sl.r_18 (F := Ideal) c arg2 harg2 x0 = x0 (ix1 15) := sinkLoad_at arg2 harg2 x0 (by decide) inb_S16_S1_15 rfl _
  unfold kernelRun0_A.sl.r_17 kernelRun0_A.sl.r_8 sinks
  rw [e0, e1, e2, e3, e4, e5, e6, e7, e8, e9, e10, e11, e12, e13, e14, e15]
  rfl

/-- The rows a point sees: the 128 before its block, then its block. -/
def seen (x2 : T S1024x512) (x3 : T S128x512) (r : Fin 1152) (c : Fin 512) : EReal :=
  if h : r.val < 128 then x3 (ix2 ⟨r.val, h⟩ c) else x2 (ix2 ⟨r.val - 128, by omega⟩ c)

/-- The buffer of keys. -/
theorem keys_at (c : Dev nD) (arg4 : Memref sig .tc .vmem S1024x512 .f32) (harg4 : arg4.IsWhole) (arg5 : Memref sig .tc .vmem S128x512 .f32) (harg5 : arg5.IsWhole) (arg7 : Memref sig .tc .vmem S1152x256 .bf16)
    (x2 : T S1024x512) (x3 : T S128x512) (f : BufTy.Contents (Elt Ideal) arg7.view.ty) (r : Fin 1152) (k : Fin 256) :
    arg7.view.read (Elt Ideal) (arg7.view.writes (Elt Ideal) f (kernelRun0_A.sl.HS0_2 (F := Ideal) c arg4 harg4 arg5 harg5 x2 x3)) (ix2 r k)
      = seen x2 x3 r ⟨k.val, by omega⟩ := by
  unfold kernelRun0_A.sl.HS0_2 seen
  by_cases h : r.val < 128
  · rw [dif_pos h]
    refine (View.read_writes_cons_rows_of_not_mem (d := ![1152, 256]) arg7.view f inb_S1152x256_S1024x256_128_0 _ _ (ix2 r k) (o := 128) (W := 1024) rfl rfl (Or.inl h)).trans ?_
    refine (View.read_writes_cons_rows_of_mem (d := ![1152, 256]) arg7.view f inb_S1152x256_S128x256_0_0 _ _ (ix2 r k) (ix2 (⟨r.val, h⟩ : Fin 128) k) (o := 0) rfl (Nat.zero_add _).symm rfl).trans ?_
    refine (pay25_at _ _ _).trans ?_
    refine (load_at arg5.view (harg5.unread x3) inb_S128x512_S128x256_0_0 0 0 rfl (⟨r.val, h⟩ : Fin 128) k (by dsimp only; omega) ⟨k.val, by omega⟩ (by simp)).trans ?_
    rw [harg5.read_unread]
    exact congrArg (fun a : Fin 128 => x3 (ix2 a _)) (Fin.ext (Nat.zero_add _))
  · rw [dif_neg h]
    refine (View.read_writes_cons_rows_of_mem (d := ![1152, 256]) arg7.view f inb_S1152x256_S1024x256_128_0 _ _ (ix2 r k) (ix2 (⟨r.val - 128, by omega⟩ : Fin 1024) k) (o := 128) rfl (by show r.val = 128 + (r.val - 128); omega) rfl).trans ?_
    refine (pay27_at _ _ _).trans ?_
    refine (load_at arg4.view (harg4.unread x2) inb_S1024x512_S1024x256_0_0 0 0 rfl (⟨r.val - 128, by omega⟩ : Fin 1024) k (by dsimp only; omega) ⟨k.val, by omega⟩ (by simp)).trans ?_
    rw [harg4.read_unread]
    exact congrArg (fun a : Fin 1024 => x2 (ix2 a _)) (Fin.ext (Nat.zero_add _))

/-- The buffer of values, every head's columns twice. -/
theorem vals_at (c : Dev nD) (arg4 : Memref sig .tc .vmem S1024x512 .f32) (harg4 : arg4.IsWhole) (arg5 : Memref sig .tc .vmem S128x512 .f32) (harg5 : arg5.IsWhole) (arg8 : Memref sig .tc .vmem S1152x512 .bf16)
    (x2 : T S1024x512) (x3 : T S128x512) (f : BufTy.Contents (Elt Ideal) arg8.view.ty) (r : Fin 1152) (u : Fin 8) (d : Fin 64) :
    arg8.view.read (Elt Ideal) (arg8.view.writes (Elt Ideal) f (kernelRun0_A.sl.HS1_2 (F := Ideal) c arg4 harg4 arg5 harg5 x2 x3)) (ix2 r ⟨u.val * 64 + d.val, by omega⟩)
      = seen x2 x3 r ⟨256 + (u.val / 2 * 64 + d.val), by omega⟩ := by
  unfold kernelRun0_A.sl.HS1_2 kernelRun0_A.sl.r seen
  by_cases h : r.val < 128
  · rw [dif_pos h]
    refine (View.read_writes_cons_rows_of_not_mem (d := ![1152, 512]) arg8.view f inb_S1152x512_S1024x512_128_0 _ _ (ix2 r _) (o := 128) (W := 1024) rfl rfl (Or.inl h)).trans ?_
    refine (View.read_writes_cons_rows_of_mem (d := ![1152, 512]) arg8.view f inb_S1152x512_S128x512_0_0 _ _ (ix2 r _) (ix2 (⟨r.val, h⟩ : Fin 128) _) (o := 0) rfl (Nat.zero_add _).symm rfl).trans ?_
    refine (pay26_at _ _ _ _).trans ?_
    refine (load_at arg5.view (harg5.unread x3) inb_S128x512_S128x256_0_256 0 256 rfl (⟨r.val, h⟩ : Fin 128) (⟨u.val / 2 * 64 + d.val, by omega⟩ : Fin 256) (by dsimp only; omega) ⟨256 + (u.val / 2 * 64 + d.val), by omega⟩ rfl).trans ?_
    rw [harg5.read_unread]
    exact congrArg (fun a : Fin 128 => x3 (ix2 a _)) (Fin.ext (Nat.zero_add _))
  · rw [dif_neg h]
    refine (View.read_writes_cons_rows_of_mem (d := ![1152, 512]) arg8.view f inb_S1152x512_S1024x512_128_0 _ _ (ix2 r _) (ix2 (⟨r.val - 128, by omega⟩ : Fin 1024) _) (o := 128) rfl (by show r.val = 128 + (r.val - 128); omega) rfl).trans ?_
    refine (pay29_at _ _ _ _).trans ?_
    refine (load_at arg4.view (harg4.unread x2) inb_S1024x512_S1024x256_0_256 0 256 rfl (⟨r.val - 128, by omega⟩ : Fin 1024) (⟨u.val / 2 * 64 + d.val, by omega⟩ : Fin 256) (by dsimp only; omega) ⟨256 + (u.val / 2 * 64 + d.val), by omega⟩ rfl).trans ?_
    rw [harg4.read_unread]
    exact congrArg (fun a : Fin 1024 => x2 (ix2 a _)) (Fin.ext (Nat.zero_add _))

/-- What the trips before the `n`-th left, read at an entry of one of them. -/
theorem trips_at (𝒱 : Variants) (c : Dev nD) (bd : Option 𝒱.V) (i : grid0.Coords) (arg2 : Memref sig .tc .smem S16 .f32) (harg2 : arg2.IsWhole) (arg3 : Memref sig .tc .vmem S1024x1024 .bf16) (harg3 : arg3.IsWhole) (arg4 : Memref sig .tc .vmem S1024x512 .f32) (harg4 : arg4.IsWhole) (arg5 : Memref sig .tc .vmem S128x512 .f32) (harg5 : arg5.IsWhole) (arg6 : Memref sig .tc .vmem S1024x1024 .bf16) (harg6 : arg6.IsWhole) (arg7 : Memref sig .tc .vmem S1152x256 .bf16) (harg7 : arg7.IsWhole) (arg8 : Memref sig .tc .vmem S1152x512 .bf16) (harg8 : arg8.IsWhole) (v0 : BitVec 1) (v41 : IVec S128x128 1) (v45 : IVec S1x128x128 1) (v46 : IVec S16x1x1 32) (v122 : FVec Ideal S16x1x1 .f32) (v123 : IVec S16x1x1 32) (v125 : Elt Ideal .f32) (X3 : BufTy.Contents (Elt Ideal) arg3.view.ty) (X7 : BufTy.Contents (Elt Ideal) arg7.view.ty) (X8 : BufTy.Contents (Elt Ideal) arg8.view.ty)
    {κ : Kind} {sp : Space} (v : View sig κ sp S1024x1024 .bf16) (f : BufTy.Contents (Elt Ideal) v.ty)
    (n : Nat) (hn : n ≤ k0_t1_loop.trips) (k : Fin k0_t1_loop.trips) (hk : k.val < n) (i' : Fin 128) (x : Fin 1024) (hr : 128 * k.val + i'.val < 1024) :
    v.read (Elt Ideal) (v.writes (Elt Ideal) f (pb_k0_t1 (F := Ideal) 𝒱 c bd i arg2 harg2 arg3 harg3 arg4 harg4 arg5 harg5 arg6 harg6 arg7 harg7 arg8 harg8 v0 v41 v45 v46 v122 v123 v125 X3 X7 X8 n)) (ix2 ⟨128 * k.val + i'.val, hr⟩ x)
      = tile v41 v45 (k0_pay3 v0 v45 0#32 1#32 k) (k0_pay1 (F := Ideal) v46 v122 v123 v125) (kLoads arg7 X7 k) (qLoads arg3 X3 k) (pLoads arg8 X8 k) (oLoads arg8 X8 k) (ix2 i' x) := by
  induction n with
  | zero => exact absurd hk (Nat.not_lt_zero _)
  | succ n ih =>
    have hs := pb_k0_t1_succ (F := Ideal) 𝒱 c bd i arg2 harg2 arg3 harg3 arg4 harg4 arg5 harg5 arg6 harg6 arg7 harg7 arg8 harg8 v0 v41 v45 v46 v122 v123 v125 X3 X7 X8 ⟨n, hn⟩
    unfold tripL_k0_t1 at hs
    rw [trip_piece] at hs
    rw [hs]
    by_cases h : k.val = n
    · have hkn : k = ⟨n, hn⟩ := Fin.ext h
      subst hkn
      exact View.read_writes_cons_rows_of_mem (d := ![1024, 1024]) v f (k0_off29_inb _) _ _ (ix2 ⟨_, hr⟩ x) (ix2 i' x) (o := 128 * n) (k0_off29_eq _) rfl rfl
    · refine (View.read_writes_cons_rows_of_not_mem (d := ![1024, 1024]) v f (k0_off29_inb _) _ _ (ix2 ⟨_, hr⟩ x) (o := 128 * n) (W := 128) (k0_off29_eq _) rfl (Or.inl ?_)).trans (ih (by omega) (by omega))
      show 128 * k.val + i'.val < 128 * n
      omega

set_option maxHeartbeats 4000000 in
/-- What a point stores is what its eight trips store. -/
theorem pieces_eq (c : Dev nD) (i : grid0.Coords) (arg2 : Memref sig .tc .smem S16 .f32) (harg2 : arg2.IsWhole) (arg3 : Memref sig .tc .vmem S1024x1024 .bf16) (harg3 : arg3.IsWhole) (arg4 : Memref sig .tc .vmem S1024x512 .f32) (harg4 : arg4.IsWhole) (arg5 : Memref sig .tc .vmem S128x512 .f32) (harg5 : arg5.IsWhole) (arg6 : Memref sig .tc .vmem S1024x1024 .bf16) (harg6 : arg6.IsWhole) (arg7 : Memref sig .tc .vmem S1152x256 .bf16) (harg7 : arg7.IsWhole) (arg8 : Memref sig .tc .vmem S1152x512 .bf16) (harg8 : arg8.IsWhole) (x0 : T S16) (x1 : W S1024x1024) (x2 : T S1024x512) (x3 : T S128x512) :
    (kernelRun0_A (F := Ideal) c i arg2 harg2 arg3 harg3 arg4 harg4 arg5 harg5 arg6 harg6 arg7 harg7 arg8 harg8 x0 x1 x2 x3).1
      = pb_k0_t1 (F := Ideal) Variants.none c none i arg2 harg2 arg3 harg3 arg4 harg4 arg5 harg5 arg6 harg6 arg7 harg7 arg8 harg8 (kernelRun0_A.sl.v0 i) k0_pay30 k0_pay31 kernelRun0_A.sl.v46 (kernelRun0_A.sl.r_17 c arg2 harg2 x0) k0_pay35 (kernelRun0_A.sl.r_18 c arg2 harg2 x0)
          (harg3.unread x1) (arg7.view.writes (Elt Ideal) arg7.view.junk (kernelRun0_A.sl.HS0_2 c arg4 harg4 arg5 harg5 x2 x3)) (arg8.view.writes (Elt Ideal) arg8.view.junk (kernelRun0_A.sl.HS1_2 c arg4 harg4 arg5 harg5 x2 x3))
          (Scf.trips (0#32) (Scalar.addi 0#32 8#32) 1#32) := by
  unfold kernelRun0_A
  sl_kernel_rfl

/-- One score of a point: nothing where the keys are missing, else the query against its key. -/
def blockScore (i : grid0.Coords) (x1 : W S1024x1024) (x2 : T S1024x512) (x3 : T S128x512) (t : Fin 8) (h g : Fin 4) (r j : Fin 128) : EReal :=
  if r.val < j.val ∧ (i 1).val = 0 ∧ t.val = 0 then ⊥
  else if r.val < j.val then ∑ c : Fin 64, x1 (ix2 ⟨128 * t.val + r.val, by omega⟩ ⟨64 * (h.val * 4 + g.val) + c.val, by omega⟩) * seen x2 x3 ⟨128 * t.val + j.val, by omega⟩ ⟨64 * h.val + c.val, by omega⟩
  else ∑ c : Fin 64, x1 (ix2 ⟨128 * t.val + r.val, by omega⟩ ⟨64 * (h.val * 4 + g.val) + c.val, by omega⟩) * seen x2 x3 ⟨128 * t.val + (128 + j.val), by omega⟩ ⟨64 * h.val + c.val, by omega⟩

/-- The first point of a batch. -/
theorem first_iff (i : grid0.Coords) : kernelRun0_A.sl.v0 i = 1#1 ↔ (i 1).val = 0 := by
  have h8 : (i 1).val < 8 := (i 1).isLt
  unfold kernelRun0_A.sl.v0
  generalize (i 1).val = e at h8 ⊢
  word_omega

/-- A head's column in the doubled values. -/
theorem twice (h g : Fin 4) (d : Fin 64) : (⟨128 * h.val + (g.val % 2 * 64 + d.val), by omega⟩ : Fin 512) = ⟨(2 * h.val + g.val % 2) * 64 + d.val, by omega⟩ :=
  Fin.ext (by dsimp only; omega)

/-- The block a point leaves, at an entry. -/
theorem block_at (c : Dev nD) (i : grid0.Coords) (arg2 : Memref sig .tc .smem S16 .f32) (harg2 : arg2.IsWhole) (arg3 : Memref sig .tc .vmem S1024x1024 .bf16) (harg3 : arg3.IsWhole) (arg4 : Memref sig .tc .vmem S1024x512 .f32) (harg4 : arg4.IsWhole) (arg5 : Memref sig .tc .vmem S128x512 .f32) (harg5 : arg5.IsWhole) (arg6 : Memref sig .tc .vmem S1024x1024 .bf16) (harg6 : arg6.IsWhole) (arg7 : Memref sig .tc .vmem S1152x256 .bf16) (harg7 : arg7.IsWhole) (arg8 : Memref sig .tc .vmem S1152x512 .bf16) (harg8 : arg8.IsWhole) (x0 : T S16) (x1 : W S1024x1024) (x2 : T S1024x512) (x3 : T S128x512) (t : Fin 8) (r : Fin 128) (h g : Fin 4) (d : Fin 64) :
    out0_A_4 (F := Ideal) c i arg2 harg2 arg3 harg3 arg4 harg4 arg5 harg5 arg6 harg6 arg7 harg7 arg8 harg8 x0 x1 x2 x3 (ix2 ⟨128 * t.val + r.val, by omega⟩ ⟨h.val * 256 + g.val * 64 + d.val, by omega⟩)
      = rowOut r (blockScore i x1 x2 x3 t h g r) (x0 (ix1 ⟨h.val * 4 + g.val, by omega⟩))
          (fun j => seen x2 x3 ⟨128 * t.val + j.val, by omega⟩ ⟨256 + (h.val * 64 + d.val), by omega⟩)
          (fun j => seen x2 x3 ⟨128 * t.val + 128 + j.val, by omega⟩ ⟨256 + (h.val * 64 + d.val), by omega⟩) := by
  unfold out0_A_4
  rw [pieces_eq]
  have ht : t.val < k0_t1_loop.trips := by rw [trips_eq]; exact t.isLt
  refine (trips_at _ _ _ i arg2 harg2 arg3 harg3 arg4 harg4 arg5 harg5 arg6 harg6 arg7 harg7 arg8 harg8 _ _ _ _ _ _ _ _ _ _ _ _ _ (Nat.le_of_eq rfl) ⟨t.val, ht⟩ ht r _ _).trans ?_
  rw [sinks_loaded]
  refine (tile_at _ _ _ _ _ _ h g r d).trans ?_
  congr 1
  · funext j
    refine (tileScores_at _ _ _ h g r j).trans ?_
    unfold blockScore
    rw [ite_congr (propext ((none_at _ ⟨t.val, ht⟩ r j).trans (and_congr_right' (and_congr_left' (first_iff i))))) (fun _ => rfl) (fun _ => rfl)]
    refine if_congr Iff.rfl rfl (if_congr Iff.rfl ?_ ?_)
    · refine Finset.sum_congr rfl fun e _ => ?_
      rw [qLoads_at (hr := by dsimp only; omega), kLoads_at (hr := by dsimp only; omega), keys_at, harg3.read_unread]
    · refine Finset.sum_congr rfl fun e _ => ?_
      rw [qLoads_at (hr := by dsimp only; omega), kLoads_at (hr := by dsimp only; omega), keys_at, harg3.read_unread]
  · exact sinks_at _ _
  · funext j
    rw [pLoads_at (hr := by dsimp only; omega)]
    refine (congrArg _ (congrArg (ix2 _) (twice h g d))).trans ((vals_at c arg4 harg4 arg5 harg5 arg8 x2 x3 _ _ ⟨2 * h.val + g.val % 2, by omega⟩ d).trans (congrArg (seen x2 x3 _) (Fin.ext ?_)))
    show 256 + ((2 * h.val + g.val % 2) / 2 * 64 + d.val) = 256 + (h.val * 64 + d.val)
    omega
  · funext j
    rw [oLoads_at (hr := by dsimp only; omega)]
    refine (congrArg _ (congrArg (ix2 _) (twice h g d))).trans ((vals_at c arg4 harg4 arg5 harg5 arg8 x2 x3 _ _ ⟨2 * h.val + g.val % 2, by omega⟩ d).trans (congrArg (seen x2 x3 _) (Fin.ext ?_)))
    show 256 + ((2 * h.val + g.val % 2) / 2 * 64 + d.val) = 256 + (h.val * 64 + d.val)
    omega

end Cert.AttnIdeal.Own

end
-- ==== Proof.AttnMath.lean ====
/-
  A row of the attention call: one banded pass over 128 merged scores equals the softmax over the
  256 scores of the block and the block before it, the sink in the normaliser.
-/
module

public import proofs.«01_k».proof.Proof.AttnTile

@[expose] public section

noncomputable section

open Idealize.ShloMosaic

namespace Cert.AttnIdeal.Own

/-- An exponential is not negative. -/
theorem exp_nonneg (x : EReal) : 0 ≤ Ideal.exp x := by
  induction x with
  | bot => exact le_refl (0 : EReal)
  | coe r => exact EReal.coe_nonneg.mpr (Real.exp_pos r).le
  | top => exact le_top

/-- An exponential of something below infinity is below infinity. -/
theorem exp_ne_top {x : EReal} (h : x ≠ ⊤) : Ideal.exp x ≠ ⊤ := by
  induction x with
  | bot => exact EReal.zero_ne_top
  | coe r => exact EReal.coe_ne_top _
  | top => exact absurd rfl h

/-- An exponential of something above minus infinity is positive. -/
theorem exp_pos {x : EReal} (h : x ≠ ⊥) : 0 < Ideal.exp x := by
  induction x with
  | bot => exact absurd rfl h
  | coe r => exact EReal.coe_pos.mpr (Real.exp_pos r)
  | top => exact EReal.zero_lt_top

/-- A difference with a real number is below infinity where its first part is. -/
theorem sub_real_ne_top {x : EReal} (h : x ≠ ⊤) (r : ℝ) : x - (r : EReal) ≠ ⊤ := by
  induction x with
  | bot => rw [EReal.bot_sub]; exact bot_ne_top
  | coe a => rw [← EReal.coe_sub]; exact EReal.coe_ne_top _
  | top => exact absurd rfl h

/-- A sum of numbers below infinity that are not negative is below infinity. -/
theorem sum_ne_top {ι : Type} (s : Finset ι) (f : ι → EReal) (h : ∀ i ∈ s, f i ≠ ⊤) : ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s)) (ih fun i hi => h i (Finset.mem_insert_of_mem hi))

/-- A number that is not negative and below infinity goes into a sum. -/
theorem sum_mul_real {ι : Type} (s : Finset ι) (f : ι → EReal) {c : EReal} (h0 : 0 ≤ c) (ht : c ≠ ⊤) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The inverse of something positive and below infinity is below infinity. -/
theorem inv_real {D : EReal} (h0 : 0 < D) (ht : D ≠ ⊤) : 0 ≤ D⁻¹ ∧ D⁻¹ ≠ ⊤ := by
  induction D with
  | bot => exact absurd h0 (not_lt.mpr bot_le)
  | coe r => exact ⟨EReal.inv_nonneg_of_nonneg h0.le, by rw [← EReal.coe_inv]; exact EReal.coe_ne_top _⟩
  | top => exact absurd rfl ht

/-- The softmax over 256 scores with a sink, weighting values. -/
def softRow (s' : Fin 256 → EReal) (z : EReal) (v : Fin 256 → EReal) : EReal :=
  ∑ j : Fin 256, v j * Ideal.div (Ideal.exp (s' j - max (Finset.univ.sup s') z))
    ((∑ j : Fin 256, Ideal.exp (s' j - max (Finset.univ.sup s') z)) + Ideal.exp (z - max (Finset.univ.sup s') z))

/-- The first 128 columns. -/
abbrev lo (j : Fin 128) : Fin 256 := ⟨j.val, by omega⟩
/-- The last 128 columns. -/
abbrev hi (j : Fin 128) : Fin 256 := ⟨128 + j.val, by omega⟩

/-- A sum over 256 columns in two halves. -/
theorem sum_halves (f : Fin 256 → EReal) : ∑ j : Fin 256, f j = (∑ j : Fin 128, f (lo j)) + ∑ j : Fin 128, f (hi j) :=
  Fin.sum_univ_add (a := 128) (b := 128) f

/-- The banded row is the softmax over both halves. -/
theorem rowOut_eq (i : Fin 128) (s : Fin 128 → EReal) (s' : Fin 256 → EReal) (z : ℝ) (vp vo : Fin 128 → EReal) (v : Fin 256 → EReal)
    (hs : ∀ j, s j ≠ ⊤)
    (hl : ∀ j : Fin 128, s' (lo j) = if i.val < j.val then s j else ⊥)
    (hh : ∀ j : Fin 128, s' (hi j) = if i.val < j.val then ⊥ else s j)
    (hvl : ∀ j : Fin 128, i.val < j.val → s j ≠ ⊥ → v (lo j) = vp j)
    (hvh : ∀ j : Fin 128, ¬ i.val < j.val → v (hi j) = vo j) :
    rowOut i s (z : EReal) vp vo = softRow s' (z : EReal) v := by
  have hsup : Finset.univ.sup s' = Finset.univ.sup s := by
    refine le_antisymm (Finset.sup_le fun j _ => ?_) (Finset.sup_le fun j _ => ?_)
    · by_cases hj : j.val < 128
      · have e : j = lo ⟨j.val, hj⟩ := rfl
        rw [e, hl]
        split
        · exact Finset.le_sup (f := s) (Finset.mem_univ _)
        · exact bot_le
      · obtain ⟨k, rfl⟩ : ∃ k : Fin 128, j = hi k := ⟨⟨j.val - 128, by omega⟩, Fin.ext (by show j.val = 128 + (j.val - 128); omega)⟩
        rw [hh]
        split
        · exact bot_le
        · exact Finset.le_sup (f := s) (Finset.mem_univ _)
    · by_cases hj : i.val < j.val
      · have h := hl j
        rw [if_pos hj] at h
        rw [← h]
        exact Finset.le_sup (f := s') (Finset.mem_univ _)
      · have h := hh j
        rw [if_neg hj] at h
        rw [← h]
        exact Finset.le_sup (f := s') (Finset.mem_univ _)
  have htop : max (Finset.univ.sup s) (z : EReal) ≠ ⊤ := by
    refine ne_of_lt (max_lt ((Finset.sup_lt_iff (bot_lt_top)).mpr fun j _ => lt_top_iff_ne_top.mpr (hs j)) (EReal.coe_lt_top z))
  have hbot : max (Finset.univ.sup s) (z : EReal) ≠ ⊥ := ne_of_gt (lt_of_lt_of_le (EReal.bot_lt_coe z) (le_max_right _ _))
  unfold rowOut softRow
  rw [hsup]
  generalize max (Finset.univ.sup s) (z : EReal) = M at htop hbot ⊢
  obtain ⟨a, rfl⟩ : ∃ a : ℝ, M = (a : EReal) := ⟨M.toReal, (EReal.coe_toReal htop hbot).symm⟩
  have hnone : Ideal.exp (⊥ - (a : EReal)) = 0 := by rw [EReal.bot_sub]; rfl
  have hden : (∑ j : Fin 256, Ideal.exp (s' j - (a : EReal))) = ∑ j : Fin 128, Ideal.exp (s j - (a : EReal)) := by
    rw [sum_halves, ← Finset.sum_add_distrib]
    refine Finset.sum_congr rfl fun j _ => ?_
    rw [hl, hh]
    by_cases hj : i.val < j.val
    · rw [if_pos hj, if_pos hj, hnone, add_zero]
    · rw [if_neg hj, if_neg hj, hnone, zero_add]
  rw [hden]
  have hz : 0 < Ideal.exp ((z : EReal) - (a : EReal)) := exp_pos (by rw [← EReal.coe_sub]; exact EReal.coe_ne_bot _)
  have hD0 : 0 < (∑ j : Fin 128, Ideal.exp (s j - (a : EReal))) + Ideal.exp ((z : EReal) - (a : EReal)) :=
    lt_of_lt_of_le hz (le_add_of_nonneg_left (Finset.sum_nonneg fun j _ => exp_nonneg _))
  have hDt : (∑ j : Fin 128, Ideal.exp (s j - (a : EReal))) + Ideal.exp ((z : EReal) - (a : EReal)) ≠ ⊤ :=
    EReal.add_ne_top (sum_ne_top _ _ fun j _ => exp_ne_top (sub_real_ne_top (hs j) a)) (exp_ne_top (by rw [← EReal.coe_sub]; exact EReal.coe_ne_top _))
  generalize (∑ j : Fin 128, Ideal.exp (s j - (a : EReal))) + Ideal.exp ((z : EReal) - (a : EReal)) = D at hD0 hDt ⊢
  obtain ⟨hi0, hit⟩ := inv_real hD0 hDt
  have hdiv : ∀ x : EReal, Ideal.div x D = x * D⁻¹ := fun x => if_neg (ne_of_gt hD0)
  rw [hdiv 1, one_mul, EReal.right_distrib_of_nonneg_of_ne_top hi0 hit, sum_mul_real _ _ hi0 hit, sum_mul_real _ _ hi0 hit, sum_halves]
  simp only [hdiv]
  refine congrArg₂ (· + ·) (Finset.sum_congr rfl fun j _ => ?_) (Finset.sum_congr rfl fun j _ => ?_)
  · rw [hl]
    by_cases hj : i.val < j.val
    · rw [if_pos hj, if_pos hj]
      by_cases hb : s j = ⊥
      · rw [hb, hnone, zero_mul, zero_mul, mul_zero]
      · rw [hvl j hj hb, mul_comm (Ideal.exp _) (vp j), mul_assoc]
    · rw [if_neg hj, if_neg hj, hnone, zero_mul, zero_mul, mul_zero]
  · rw [hh]
    by_cases hj : i.val < j.val
    · rw [if_pos hj, if_pos hj, hnone, zero_mul, zero_mul, mul_zero]
    · rw [if_neg hj, if_neg hj, hvh j hj, mul_comm (Ideal.exp _) (vo j), mul_assoc]

/-- The scale of the scores may be taken on the query. -/
theorem score_scale (q k : Fin 64 → EReal) {c : EReal} (h0 : 0 ≤ c) (ht : c ≠ ⊤) :
    ∑ x : Fin 64, (q x * c) * k x = (∑ x : Fin 64, k x * q x) * c := by
  rw [sum_mul_real _ _ h0 ht]
  exact Finset.sum_congr rfl fun x _ => by rw [mul_comm (q x * c) (k x), ← mul_assoc]

end Cert.AttnIdeal.Own

end
-- ==== Proof.AttnRefRun.lean ====
/-
  The attention's own lines as the problem states them, run operation by operation. The operations fall
  into stages (split the arguments, build the mask, band the keys and the values, score, take the tops,
  exponentiate, normalise, weigh, mix);
  each stage is read back on its own, and the run's result is the stages composed.
-/
module

public import proofs.«01_k».proof.Defs
public import proofs.«01_k».proof.Proof.Gen.AttnRefIdeal
public import Idealize.ShloMosaic.Lib.StableHlo.Run
public import Idealize.ShloMosaic.Lib.Claim
public import Idealize.ShloMosaic.Lib.Quiescent

@[expose] public section

set_option maxRecDepth 16384

noncomputable section

namespace Cert.AttnRefIdeal.Own

open Cert.AttnRefIdeal Cert.AttnRefIdeal.Gen
open Idealize.ShloMosaic Idealize.ShloMosaic.TcCoe Idealize.SL.Sem Idealize.ShloMosaic.StableHlo

/-- Arrays of reals, of 32-bit integers, of truth values and of results, by their shape. -/
abbrev R (S : Shape) := FVec Ideal S .f32
/-- Integer arrays. -/
abbrev Z (S : Shape) := IVec S 32
/-- Arrays of truth values. -/
abbrev B (S : Shape) := IVec S 1
/-- Arrays of results. -/
abbrev H (S : Shape) := FVec Ideal S .bf16

/-- The blocks moved down by one behind the first argument's. -/
def shifted (a : R S2x1x128x4x64) (b : R S2x63x128x4x64) : R S2x64x128x4x64 :=
  concatenate S2x64x128x4x64 1 [⟨S2x1x128x4x64, a⟩, ⟨S2x63x128x4x64, b⟩] concatenates_S2x1x128x4x64_S2x63x128x4x64_S2x64x128x4x64_d1

/-- Two blocks' rows, one after the other. -/
def paired (a b : R S2x64x128x4x64) : R S2x64x256x4x64 :=
  concatenate S2x64x256x4x64 2 [⟨S2x64x128x4x64, a⟩, ⟨S2x64x128x4x64, b⟩] concatenates_S2x64x128x4x64_S2x64x128x4x64_S2x64x256x4x64_d2

/-- The arguments reshaped into queries, keys and values. -/
abbrev splitOps : List (HloOp τ sig (Elt Ideal)) :=
  [ reshape main_arg2 main_v0 rfl shapeCasts_S16384x512_S2x8192x512,
    unary main_v0 main_v1 ((extractStridedSlice S2x8192x256 ![0, 0, 0] · slices_S2x8192x512_S2x8192x256_0_0_0) : R S2x8192x512 → R S2x8192x256),
    unary main_v0 main_v2 ((extractStridedSlice S2x8192x256 ![0, 0, 256] · slices_S2x8192x512_S2x8192x256_0_0_256) : R S2x8192x512 → R S2x8192x256),
    reshape main_arg1 main_v3 rfl shapeCasts_S16384x1024_S2x8192x4x4x64,
    reshape main_v1 main_v4 rfl shapeCasts_S2x8192x256_S2x8192x4x64,
    reshape main_v2 main_v5 rfl shapeCasts_S2x8192x256_S2x8192x4x64,
    reshape main_v3 main_v6 rfl shapeCasts_S2x8192x4x4x64_S128x128x4x4x64 ]

/-- The mask: which of the 256 banded keys a query may see. -/
abbrev maskOps : List (HloOp τ sig (Elt Ideal)) :=
  [ nullary main_v7 (iotaInDim S128 32 0),
    unary main_v7 main_v8 (broadcastInDim S128x1 ![0] bcast_S128_S128x1_0 : Z S128 → Z S128x1),
    nullary main_v9 (iotaInDim S256 32 0),
    unary main_v9 main_v10 (broadcastInDim S1x256 ![1] bcast_S256_S1x256_1 : Z S256 → Z S1x256),
    nullary main_c (constantI S_ 32 128#32),
    unary main_c main_v11 (broadcastInDim S128x1 ![] bcast_S_S128x1 : Z S_ → Z S128x1),
    binary main_v8 main_v11 main_v12 (addi : Z S128x1 → Z S128x1 → Z S128x1),
    unary main_v12 main_v13 (broadcastInDim S128x256 ![0, 1] bcast_S128x1_S128x256_0_1 : Z S128x1 → Z S128x256),
    unary main_v10 main_v14 (broadcastInDim S128x256 ![0, 1] bcast_S1x256_S128x256_0_1 : Z S1x256 → Z S128x256),
    binary main_v13 main_v14 main_v15 (subi : Z S128x256 → Z S128x256 → Z S128x256),
    nullary main_v16 (iotaInDim S64 32 0),
    unary main_v16 main_v17 (broadcastInDim S64x1x1 ![0] bcast_S64_S64x1x1_0 : Z S64 → Z S64x1x1),
    nullary main_c_0 (constantI S_ 32 0#32),
    unary main_c_0 main_v18 (broadcastInDim S128x256 ![] bcast_S_S128x256 : Z S_ → Z S128x256),
    binary main_v15 main_v18 main_v19 (cmpi .sge : Z S128x256 → Z S128x256 → B S128x256),
    nullary main_c_1 (constantI S_ 32 128#32),
    unary main_c_1 main_v20 (broadcastInDim S128x256 ![] bcast_S_S128x256 : Z S_ → Z S128x256),
    binary main_v15 main_v20 main_v21 (cmpi .slt : Z S128x256 → Z S128x256 → B S128x256),
    binary main_v19 main_v21 main_v22 (andi : B S128x256 → B S128x256 → B S128x256),
    nullary main_c_2 (constantI S_ 32 128#32),
    unary main_c_2 main_v23 (broadcastInDim S64x1x1 ![] bcast_S_S64x1x1 : Z S_ → Z S64x1x1),
    binary main_v17 main_v23 main_v24 (muli : Z S64x1x1 → Z S64x1x1 → Z S64x1x1),
    nullary main_c_3 (constantI S_ 32 128#32),
    unary main_c_3 main_v25 (broadcastInDim S64x1x1 ![] bcast_S_S64x1x1 : Z S_ → Z S64x1x1),
    binary main_v24 main_v25 main_v26 (subi : Z S64x1x1 → Z S64x1x1 → Z S64x1x1),
    unary main_v10 main_v27 (broadcastInDim S1x1x256 ![1, 2] bcast_S1x256_S1x1x256_1_2 : Z S1x256 → Z S1x1x256),
    unary main_v26 main_v28 (broadcastInDim S64x1x256 ![0, 1, 2] bcast_S64x1x1_S64x1x256_0_1_2 : Z S64x1x1 → Z S64x1x256),
    unary main_v27 main_v29 (broadcastInDim S64x1x256 ![0, 1, 2] bcast_S1x1x256_S64x1x256_0_1_2 : Z S1x1x256 → Z S64x1x256),
    binary main_v28 main_v29 main_v30 (addi : Z S64x1x256 → Z S64x1x256 → Z S64x1x256),
    nullary main_c_4 (constantI S_ 32 0#32),
    unary main_c_4 main_v31 (broadcastInDim S64x1x256 ![] bcast_S_S64x1x256 : Z S_ → Z S64x1x256),
    binary main_v30 main_v31 main_v32 (cmpi .sge : Z S64x1x256 → Z S64x1x256 → B S64x1x256),
    unary main_v22 main_v33 (broadcastInDim S1x128x256 ![1, 2] bcast_S128x256_S1x128x256_1_2 : B S128x256 → B S1x128x256),
    unary main_v33 main_v34 (broadcastInDim S64x128x256 ![0, 1, 2] bcast_S1x128x256_S64x128x256_0_1_2 : B S1x128x256 → B S64x128x256),
    unary main_v32 main_v35 (broadcastInDim S64x128x256 ![0, 1, 2] bcast_S64x1x256_S64x128x256_0_1_2 : B S64x1x256 → B S64x128x256),
    binary main_v34 main_v35 main_v36 (andi : B S64x128x256 → B S64x128x256 → B S64x128x256),
    unary main_v36 main_v37 (broadcastInDim S1x64x128x256 ![1, 2, 3] bcast_S64x128x256_S1x64x128x256_1_2_3 : B S64x128x256 → B S1x64x128x256),
    unary main_v37 main_v38 (broadcastInDim S2x64x128x256 ![0, 1, 2, 3] bcast_S1x64x128x256_S2x64x128x256_0_1_2_3 : B S1x64x128x256 → B S2x64x128x256),
    reshape main_v38 main_v39 rfl shapeCasts_S2x64x128x256_S128x1x1x128x256 ]

/-- Keys and values banded: each block behind the block before it. -/
abbrev bandOps : List (HloOp τ sig (Elt Ideal)) :=
  [ reshape main_v4 main_v40 rfl shapeCasts_S2x8192x4x64_S2x64x128x4x64,
    unary main_v40 main_v41 ((extractStridedSlice S2x1x128x4x64 ![0, 0, 0, 0, 0] · slices_S2x64x128x4x64_S2x1x128x4x64_0_0_0_0_0) : R S2x64x128x4x64 → R S2x1x128x4x64),
    nullary main_cst (constant (F := Ideal) S_ .f32 0x00000000#32),
    unary main_cst main_v42 (broadcastInDim S2x1x128x4x64 ![] bcast_S_S2x1x128x4x64 : R S_ → R S2x1x128x4x64),
    unary main_v40 main_v43 ((extractStridedSlice S2x63x128x4x64 ![0, 0, 0, 0, 0] · slices_S2x64x128x4x64_S2x63x128x4x64_0_0_0_0_0) : R S2x64x128x4x64 → R S2x63x128x4x64),
    binary main_v42 main_v43 main_v44 shifted,
    binary main_v44 main_v40 main_v45 paired,
    reshape main_v45 main_v46 rfl shapeCasts_S2x64x256x4x64_S128x256x4x64,
    reshape main_v5 main_v47 rfl shapeCasts_S2x8192x4x64_S2x64x128x4x64,
    unary main_v47 main_v48 ((extractStridedSlice S2x1x128x4x64 ![0, 0, 0, 0, 0] · slices_S2x64x128x4x64_S2x1x128x4x64_0_0_0_0_0) : R S2x64x128x4x64 → R S2x1x128x4x64),
    nullary main_cst_5 (constant (F := Ideal) S_ .f32 0x00000000#32),
    unary main_cst_5 main_v49 (broadcastInDim S2x1x128x4x64 ![] bcast_S_S2x1x128x4x64 : R S_ → R S2x1x128x4x64),
    unary main_v47 main_v50 ((extractStridedSlice S2x63x128x4x64 ![0, 0, 0, 0, 0] · slices_S2x64x128x4x64_S2x63x128x4x64_0_0_0_0_0) : R S2x64x128x4x64 → R S2x63x128x4x64),
    binary main_v49 main_v50 main_v51 shifted,
    binary main_v51 main_v47 main_v52 paired,
    reshape main_v52 main_v53 rfl shapeCasts_S2x64x256x4x64_S128x256x4x64 ]

/-- The scaled and masked scores. -/
abbrev scoreOps : List (HloOp τ sig (Elt Ideal)) :=
  [ binary main_v46 main_v6 main_v54 ((fun l r => Host.dotGeneral dot_S128x256x4x64_S128x128x4x4x64_S128x4x256x128x4_3_4_1_13_02_02 none l r) : R S128x256x4x64 → R S128x128x4x4x64 → R S128x4x256x128x4),
    unary main_v54 main_v55 ((transpose S128x4x4x128x256 [0, 1, 4, 3, 2] · transposes_S128x4x256x128x4_S128x4x4x128x256_0_1_4_3_2) : R S128x4x256x128x4 → R S128x4x4x128x256),
    nullary main_cst_6 (constant (F := Ideal) S_ .f32 0x3E000000#32),
    unary main_cst_6 main_v56 (broadcastInDim S128x4x4x128x256 ![] bcast_S_S128x4x4x128x256 : R S_ → R S128x4x4x128x256),
    binary main_v55 main_v56 main_v57 (mulf : R S128x4x4x128x256 → R S128x4x4x128x256 → R S128x4x4x128x256),
    nullary main_cst_7 (constant (F := Ideal) S_ .f32 0xFF800000#32),
    TRef.unary (.of (T := ⟨S_, .f32⟩) main_cst_7) (.of (T := ⟨S_, .f32⟩) main_call0_v0) id,
    TRef.unary (.of (T := ⟨S128x1x1x128x256, .i1⟩) main_v39) (.of (T := ⟨S128x4x4x128x256, .i1⟩) main_call0_v1)
      (broadcastInDim S128x4x4x128x256 ![0, 1, 2, 3, 4] bcast_S128x1x1x128x256_S128x4x4x128x256_0_1_2_3_4),
    TRef.unary (.of (T := ⟨S_, .f32⟩) main_call0_v0) (.of (T := ⟨S128x4x4x128x256, .f32⟩) main_call0_v2)
      (broadcastInDim S128x4x4x128x256 ![] bcast_S_S128x4x4x128x256),
    TRef.ternary (.of (T := ⟨S128x4x4x128x256, .i1⟩) main_call0_v1) (.of (T := ⟨S128x4x4x128x256, .f32⟩) main_v57)
      (.of (T := ⟨S128x4x4x128x256, .f32⟩) main_call0_v2) (.of (T := ⟨S128x4x4x128x256, .f32⟩) main_v58) select ]

/-- The larger of the greatest score and the sink. -/
abbrev topOps : List (HloOp τ sig (Elt Ideal)) :=
  [ reshape main_arg0 main_v59 rfl shapeCasts_S16_S1x4x4x1x1,
    nullary main_cst_8 (constant (F := Ideal) S_ .f32 0xFF800000#32),
    binary main_v58 main_cst_8 main_v60 ((fun x v => Host.reduce FloatOps.maximumf x v reducesTo_S128x4x4x128x256_S128x4x4x128_d4 h_S_) : R S128x4x4x128x256 → R S_ → R S128x4x4x128),
    unary main_v60 main_v61 (broadcastInDim S128x4x4x128x1 ![0, 1, 2, 3] bcast_S128x4x4x128_S128x4x4x128x1_0_1_2_3 : R S128x4x4x128 → R S128x4x4x128x1),
    unary main_v59 main_v62 (broadcastInDim S128x4x4x128x1 ![0, 1, 2, 3, 4] bcast_S1x4x4x1x1_S128x4x4x128x1_0_1_2_3_4 : R S1x4x4x1x1 → R S128x4x4x128x1),
    binary main_v61 main_v62 main_v63 (maximumf : R S128x4x4x128x1 → R S128x4x4x128x1 → R S128x4x4x128x1) ]

/-- The exponentials below it. -/
abbrev expOps : List (HloOp τ sig (Elt Ideal)) :=
  [ unary main_v63 main_v64 (broadcastInDim S128x4x4x128x256 ![0, 1, 2, 3, 4] bcast_S128x4x4x128x1_S128x4x4x128x256_0_1_2_3_4 : R S128x4x4x128x1 → R S128x4x4x128x256),
    binary main_v58 main_v64 main_v65 (subf : R S128x4x4x128x256 → R S128x4x4x128x256 → R S128x4x4x128x256),
    unary main_v65 main_v66 (Host.exp (F := Ideal) : R S128x4x4x128x256 → R S128x4x4x128x256) ]

/-- The normaliser, with the sink in it. -/
abbrev denOps : List (HloOp τ sig (Elt Ideal)) :=
  [ nullary main_cst_9 (constant (F := Ideal) S_ .f32 0x00000000#32),
    binary main_v66 main_cst_9 main_v67 ((fun x v => Host.reduceAdd x v reducesTo_S128x4x4x128x256_S128x4x4x128_d4 h_S_) : R S128x4x4x128x256 → R S_ → R S128x4x4x128),
    unary main_v67 main_v68 (broadcastInDim S128x4x4x128x1 ![0, 1, 2, 3] bcast_S128x4x4x128_S128x4x4x128x1_0_1_2_3 : R S128x4x4x128 → R S128x4x4x128x1),
    unary main_v59 main_v69 (broadcastInDim S128x4x4x128x1 ![0, 1, 2, 3, 4] bcast_S1x4x4x1x1_S128x4x4x128x1_0_1_2_3_4 : R S1x4x4x1x1 → R S128x4x4x128x1),
    binary main_v69 main_v63 main_v70 (subf : R S128x4x4x128x1 → R S128x4x4x128x1 → R S128x4x4x128x1),
    unary main_v70 main_v71 (Host.exp (F := Ideal) : R S128x4x4x128x1 → R S128x4x4x128x1),
    binary main_v68 main_v71 main_v72 (addf : R S128x4x4x128x1 → R S128x4x4x128x1 → R S128x4x4x128x1) ]

/-- The softmax weights. -/
abbrev weightOps : List (HloOp τ sig (Elt Ideal)) :=
  [ unary main_v72 main_v73 (broadcastInDim S128x4x4x128x256 ![0, 1, 2, 3, 4] bcast_S128x4x4x128x1_S128x4x4x128x256_0_1_2_3_4 : R S128x4x4x128x1 → R S128x4x4x128x256),
    binary main_v66 main_v73 main_v74 (Host.divf (F := Ideal) : R S128x4x4x128x256 → R S128x4x4x128x256 → R S128x4x4x128x256) ]

/-- The weighted values. -/
abbrev mixOps : List (HloOp τ sig (Elt Ideal)) :=
  [ binary main_v53 main_v74 main_v75 ((fun l r => Host.dotGeneral dot_S128x256x4x64_S128x4x4x128x256_S128x4x64x4x128_1_4_3_23_02_01 none l r) : R S128x256x4x64 → R S128x4x4x128x256 → R S128x4x64x4x128),
    unary main_v75 main_v76 ((transpose S128x128x4x4x64 [0, 4, 1, 3, 2] · transposes_S128x4x64x4x128_S128x128x4x4x64_0_4_1_3_2) : R S128x4x64x4x128 → R S128x128x4x4x64) ]

/-- Heads side by side. -/
abbrev flatOps : List (HloOp τ sig (Elt Ideal)) :=
  [ reshape main_v76 main_v77 rfl shapeCasts_S128x128x4x4x64_S128x128x1024 ]

/-- The rows of a batch. -/
abbrev rowsOps : List (HloOp τ sig (Elt Ideal)) :=
  [ reshape main_v77 main_v78 rfl shapeCasts_S128x128x1024_S2x8192x1024 ]

/-- All rows. -/
abbrev sheetOps : List (HloOp τ sig (Elt Ideal)) :=
  [ reshape main_v78 main_v79 rfl shapeCasts_S2x8192x1024_S16384x1024 ]

/-- The rounding of the result. -/
abbrev roundOps : List (HloOp τ sig (Elt Ideal)) :=
  [ unary main_v79 main_v80 ((truncf (F := Ideal) .bf16 · bitsLt_bf16_f32) : R S16384x1024 → H S16384x1024) ]

/-! ## The stages' values -/

/-- The keys: the first half of each row. -/
def keysOf (kv : R S16384x512) : R S2x8192x4x64 :=
  shapeCast _ (extractStridedSlice S2x8192x256 ![0, 0, 0] (shapeCast S2x8192x512 kv shapeCasts_S16384x512_S2x8192x512)
    slices_S2x8192x512_S2x8192x256_0_0_0) shapeCasts_S2x8192x256_S2x8192x4x64

/-- The values: the second half of each row. -/
def valsOf (kv : R S16384x512) : R S2x8192x4x64 :=
  shapeCast _ (extractStridedSlice S2x8192x256 ![0, 0, 256] (shapeCast S2x8192x512 kv shapeCasts_S16384x512_S2x8192x512)
    slices_S2x8192x512_S2x8192x256_0_0_256) shapeCasts_S2x8192x256_S2x8192x4x64

/-- The queries, by block. -/
def queriesOf (q : R S16384x1024) : R S128x128x4x4x64 :=
  shapeCast _ (shapeCast S2x8192x4x4x64 q shapeCasts_S16384x1024_S2x8192x4x4x64) shapeCasts_S2x8192x4x4x64_S128x128x4x4x64

/-- Every block behind the block before it (zeros before the first). -/
def bandOf (x : R S2x8192x4x64) : R S128x256x4x64 :=
  let b : R S2x64x128x4x64 := shapeCast _ x shapeCasts_S2x8192x4x64_S2x64x128x4x64
  shapeCast _ (paired (shifted (broadcastInDim S2x1x128x4x64 ![] bcast_S_S2x1x128x4x64 (constant (F := Ideal) S_ .f32 0x00000000#32))
    (extractStridedSlice S2x63x128x4x64 ![0, 0, 0, 0, 0] b slices_S2x64x128x4x64_S2x63x128x4x64_0_0_0_0_0)) b)
    shapeCasts_S2x64x256x4x64_S128x256x4x64

/-- Which of the 256 banded keys the queries of a block may see: at most 127 behind, and none before the first block. -/
def maskOf : B S128x1x1x128x256 :=
  let back : Z S128x256 := subi
    (broadcastInDim S128x256 ![0, 1] bcast_S128x1_S128x256_0_1
      (addi (broadcastInDim S128x1 ![0] bcast_S128_S128x1_0 (iotaInDim S128 32 0))
        (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))
  let near : B S128x256 := andi
    (cmpi .sge back (broadcastInDim S128x256 ![] bcast_S_S128x256 (constantI S_ 32 0#32)))
    (cmpi .slt back (broadcastInDim S128x256 ![] bcast_S_S128x256 (constantI S_ 32 128#32)))
  let start : Z S64x1x1 := subi
    (muli (broadcastInDim S64x1x1 ![0] bcast_S64_S64x1x1_0 (iotaInDim S64 32 0)) (broadcastInDim S64x1x1 ![] bcast_S_S64x1x1 (constantI S_ 32 128#32)))
    (broadcastInDim S64x1x1 ![] bcast_S_S64x1x1 (constantI S_ 32 128#32))
  let row : Z S64x1x256 := addi
    (broadcastInDim S64x1x256 ![0, 1, 2] bcast_S64x1x1_S64x1x256_0_1_2 start)
    (broadcastInDim S64x1x256 ![0, 1, 2] bcast_S1x1x256_S64x1x256_0_1_2
      (broadcastInDim S1x1x256 ![1, 2] bcast_S1x256_S1x1x256_1_2 (broadcastInDim S1x256 ![1] bcast_S256_S1x256_1 (iotaInDim S256 32 0))))
  let there : B S64x1x256 := cmpi .sge row (broadcastInDim S64x1x256 ![] bcast_S_S64x1x256 (constantI S_ 32 0#32))
  let both : B S64x128x256 := andi
    (broadcastInDim S64x128x256 ![0, 1, 2] bcast_S1x128x256_S64x128x256_0_1_2 (broadcastInDim S1x128x256 ![1, 2] bcast_S128x256_S1x128x256_1_2 near))
    (broadcastInDim S64x128x256 ![0, 1, 2] bcast_S64x1x256_S64x128x256_0_1_2 there)
  shapeCast _ (broadcastInDim S2x64x128x256 ![0, 1, 2, 3] bcast_S1x64x128x256_S2x64x128x256_0_1_2_3
    (broadcastInDim S1x64x128x256 ![1, 2, 3] bcast_S64x128x256_S1x64x128x256_1_2_3 both)) shapeCasts_S2x64x128x256_S128x1x1x128x256

/-- The scaled scores of the banded keys `k`, minus infinity where the mask is off. -/
def scoresOf (q : R S128x128x4x4x64) (k : R S128x256x4x64) (msk : B S128x1x1x128x256) : R S128x4x4x128x256 :=
  select (broadcastInDim S128x4x4x128x256 ![0, 1, 2, 3, 4] bcast_S128x1x1x128x256_S128x4x4x128x256_0_1_2_3_4 msk)
    (mulf (transpose S128x4x4x128x256 [0, 1, 4, 3, 2]
        (Host.dotGeneral dot_S128x256x4x64_S128x128x4x4x64_S128x4x256x128x4_3_4_1_13_02_02 none k q)
        transposes_S128x4x256x128x4_S128x4x4x128x256_0_1_4_3_2)
      (broadcastInDim S128x4x4x128x256 ![] bcast_S_S128x4x4x128x256 (constant (F := Ideal) S_ .f32 0x3E000000#32)))
    (broadcastInDim S128x4x4x128x256 ![] bcast_S_S128x4x4x128x256 (constant (F := Ideal) S_ .f32 0xFF800000#32))

/-- The sinks by head. -/
def sinkOf (sink : R S16) : R S1x4x4x1x1 := shapeCast S1x4x4x1x1 sink shapeCasts_S16_S1x4x4x1x1

/-- The larger of a row's greatest score and its head's sink. -/
def topOf (s : R S128x4x4x128x256) (sk : R S1x4x4x1x1) : R S128x4x4x128x1 :=
  maximumf
    (broadcastInDim S128x4x4x128x1 ![0, 1, 2, 3] bcast_S128x4x4x128_S128x4x4x128x1_0_1_2_3
      (Host.reduce FloatOps.maximumf s (constant (F := Ideal) S_ .f32 0xFF800000#32) reducesTo_S128x4x4x128x256_S128x4x4x128_d4 h_S_))
    (broadcastInDim S128x4x4x128x1 ![0, 1, 2, 3, 4] bcast_S1x4x4x1x1_S128x4x4x128x1_0_1_2_3_4 sk)

/-- The exponentials of the scores below their row's top. -/
def expsOf (s : R S128x4x4x128x256) (top : R S128x4x4x128x1) : R S128x4x4x128x256 :=
  Host.exp (subf s (broadcastInDim S128x4x4x128x256 ![0, 1, 2, 3, 4] bcast_S128x4x4x128x1_S128x4x4x128x256_0_1_2_3_4 top))

/-- The normaliser: the row's exponentials and the sink's. -/
def denOf (e : R S128x4x4x128x256) (sk : R S1x4x4x1x1) (top : R S128x4x4x128x1) : R S128x4x4x128x1 :=
  addf
    (broadcastInDim S128x4x4x128x1 ![0, 1, 2, 3] bcast_S128x4x4x128_S128x4x4x128x1_0_1_2_3
      (Host.reduceAdd e (constant (F := Ideal) S_ .f32 0x00000000#32) reducesTo_S128x4x4x128x256_S128x4x4x128_d4 h_S_))
    (Host.exp (subf (broadcastInDim S128x4x4x128x1 ![0, 1, 2, 3, 4] bcast_S1x4x4x1x1_S128x4x4x128x1_0_1_2_3_4 sk) top))

/-- The softmax weights. -/
def weightsOf (e : R S128x4x4x128x256) (den : R S128x4x4x128x1) : R S128x4x4x128x256 :=
  Host.divf e
    (broadcastInDim S128x4x4x128x256 ![0, 1, 2, 3, 4] bcast_S128x4x4x128x1_S128x4x4x128x256_0_1_2_3_4 den)

/-- The softmax of masked scores with the sink in its normaliser. -/
def softmaxOf (s : R S128x4x4x128x256) (sk : R S1x4x4x1x1) : R S128x4x4x128x256 :=
  weightsOf (expsOf s (topOf s sk)) (denOf (expsOf s (topOf s sk)) sk (topOf s sk))

/-- The values mixed by the weights. -/
def mixedOf (v : R S128x256x4x64) (w : R S128x4x4x128x256) : R S128x128x4x4x64 :=
  transpose S128x128x4x4x64 [0, 4, 1, 3, 2]
    (Host.dotGeneral dot_S128x256x4x64_S128x4x4x128x256_S128x4x64x4x128_1_4_3_23_02_01 none v w)
    transposes_S128x4x64x4x128_S128x128x4x4x64_0_4_1_3_2

/-- Heads side by side. -/
def flatOf (x : R S128x128x4x4x64) : R S128x128x1024 := shapeCast S128x128x1024 x shapeCasts_S128x128x4x4x64_S128x128x1024

/-- The blocks of a batch in one. -/
def rowsOf (x : R S128x128x1024) : R S2x8192x1024 := shapeCast S2x8192x1024 x shapeCasts_S128x128x1024_S2x8192x1024

/-- The batches in one. -/
def sheetOf (x : R S2x8192x1024) : R S16384x1024 := shapeCast S16384x1024 x shapeCasts_S2x8192x1024_S16384x1024

/-- The rounding. -/
def roundOf (x : R S16384x1024) : H S16384x1024 := truncf (F := Ideal) .bf16 x bitsLt_bf16_f32

/-- The reference's result as a function of its arguments. -/
def attention (sink : R S16) (q : R S16384x1024) (kv : R S16384x512) : H S16384x1024 :=
  roundOf (sheetOf (rowsOf (flatOf (mixedOf (bandOf (valsOf kv)) (softmaxOf (scoresOf (queriesOf q) (bandOf (keysOf kv)) maskOf) (sinkOf sink))))))

/-! ## Reading the stages back -/

/-- The split leaves the keys. -/
theorem splitOps_main_v4 (V : Valuation τ sig (Elt Ideal)) :
    after splitOps V (Proc.devRef (τ := τ) .tc main_v4) = keysOf (V (Proc.devRef (τ := τ) .tc main_arg2)) := by
  simp only [splitOps, TRef.ternary, TRef.unary, TRef.toBuf, TRef.ofBuf, cast_eq]
  after_results_simp
  rfl

/-- The split leaves the values. -/
theorem splitOps_main_v5 (V : Valuation τ sig (Elt Ideal)) :
    after splitOps V (Proc.devRef (τ := τ) .tc main_v5) = valsOf (V (Proc.devRef (τ := τ) .tc main_arg2)) := by
  simp only [splitOps, TRef.ternary, TRef.unary, TRef.toBuf, TRef.ofBuf, cast_eq]
  after_results_simp
  rfl

/-- The split leaves the queries. -/
theorem splitOps_main_v6 (V : Valuation τ sig (Elt Ideal)) :
    after splitOps V (Proc.devRef (τ := τ) .tc main_v6) = queriesOf (V (Proc.devRef (τ := τ) .tc main_arg1)) := by
  simp only [splitOps, TRef.ternary, TRef.unary, TRef.toBuf, TRef.ofBuf, cast_eq]
  after_results_simp
  rfl

/-- The mask stage leaves the mask. -/
theorem maskOps_main_v39 (V : Valuation τ sig (Elt Ideal)) :
    after maskOps V (Proc.devRef (τ := τ) .tc main_v39) = maskOf := by
  simp only [maskOps, TRef.ternary, TRef.unary, TRef.toBuf, TRef.ofBuf, cast_eq]
  after_results_simp
  rfl

/-- The banded keys. -/
theorem bandOps_main_v46 (V : Valuation τ sig (Elt Ideal)) :
    after bandOps V (Proc.devRef (τ := τ) .tc main_v46) = bandOf (V (Proc.devRef (τ := τ) .tc main_v4)) := by
  simp only [bandOps, TRef.ternary, TRef.unary, TRef.toBuf, TRef.ofBuf, cast_eq]
  after_results_simp
  rfl

/-- The banded values. -/
theorem bandOps_main_v53 (V : Valuation τ sig (Elt Ideal)) :
    after bandOps V (Proc.devRef (τ := τ) .tc main_v53) = bandOf (V (Proc.devRef (τ := τ) .tc main_v5)) := by
  simp only [bandOps, TRef.ternary, TRef.unary, TRef.toBuf, TRef.ofBuf, cast_eq]
  after_results_simp
  rfl

/-- The masked scores. -/
theorem scoreOps_main_v58 (V : Valuation τ sig (Elt Ideal)) :
    after scoreOps V (Proc.devRef (τ := τ) .tc main_v58) = scoresOf (V (Proc.devRef (τ := τ) .tc main_v6)) (V (Proc.devRef (τ := τ) .tc main_v46)) (V (Proc.devRef (τ := τ) .tc main_v39)) := by
  simp only [scoreOps, TRef.ternary, TRef.unary, TRef.toBuf, TRef.ofBuf, cast_eq]
  after_results_simp
  rfl

/-- The sinks. -/
theorem topOps_main_v59 (V : Valuation τ sig (Elt Ideal)) :
    after topOps V (Proc.devRef (τ := τ) .tc main_v59) = sinkOf (V (Proc.devRef (τ := τ) .tc main_arg0)) := by
  simp only [topOps, TRef.ternary, TRef.unary, TRef.toBuf, TRef.ofBuf, cast_eq]
  after_results_simp
  rfl

/-- The tops. -/
theorem topOps_main_v63 (V : Valuation τ sig (Elt Ideal)) :
    after topOps V (Proc.devRef (τ := τ) .tc main_v63) = topOf (V (Proc.devRef (τ := τ) .tc main_v58)) (sinkOf (V (Proc.devRef (τ := τ) .tc main_arg0))) := by
  simp only [topOps, TRef.ternary, TRef.unary, TRef.toBuf, TRef.ofBuf, cast_eq]
  after_results_simp
  rfl

/-- The exponentials. -/
theorem expOps_main_v66 (V : Valuation τ sig (Elt Ideal)) :
    after expOps V (Proc.devRef (τ := τ) .tc main_v66) = expsOf (V (Proc.devRef (τ := τ) .tc main_v58)) (V (Proc.devRef (τ := τ) .tc main_v63)) := by
  simp only [expOps, TRef.ternary, TRef.unary, TRef.toBuf, TRef.ofBuf, cast_eq]
  after_results_simp
  rfl

/-- The normalisers. -/
theorem denOps_main_v72 (V : Valuation τ sig (Elt Ideal)) :
    after denOps V (Proc.devRef (τ := τ) .tc main_v72) = denOf (V (Proc.devRef (τ := τ) .tc main_v66)) (V (Proc.devRef (τ := τ) .tc main_v59)) (V (Proc.devRef (τ := τ) .tc main_v63)) := by
  simp only [denOps, TRef.ternary, TRef.unary, TRef.toBuf, TRef.ofBuf, cast_eq]
  after_results_simp
  rfl

/-- The weights. -/
theorem weightOps_main_v74 (V : Valuation τ sig (Elt Ideal)) :
    after weightOps V (Proc.devRef (τ := τ) .tc main_v74) = weightsOf (V (Proc.devRef (τ := τ) .tc main_v66)) (V (Proc.devRef (τ := τ) .tc main_v72)) := by
  simp only [weightOps, TRef.ternary, TRef.unary, TRef.toBuf, TRef.ofBuf, cast_eq]
  after_results_simp
  rfl

/-- The mixed values. -/
theorem mixOps_main_v76 (V : Valuation τ sig (Elt Ideal)) :
    after mixOps V (Proc.devRef (τ := τ) .tc main_v76) = mixedOf (V (Proc.devRef (τ := τ) .tc main_v53)) (V (Proc.devRef (τ := τ) .tc main_v74)) := by
  simp only [mixOps, TRef.ternary, TRef.unary, TRef.toBuf, TRef.ofBuf, cast_eq]
  after_results_simp
  rfl

/-- Heads side by side. -/
theorem flatOps_main_v77 (V : Valuation τ sig (Elt Ideal)) :
    after flatOps V (Proc.devRef (τ := τ) .tc main_v77) = flatOf (V (Proc.devRef (τ := τ) .tc main_v76)) := by
  rw [flatOps, after_cons, after_nil, reshape_result]
  rfl

/-- The blocks of a batch in one. -/
theorem rowsOps_main_v78 (V : Valuation τ sig (Elt Ideal)) :
    after rowsOps V (Proc.devRef (τ := τ) .tc main_v78) = rowsOf (V (Proc.devRef (τ := τ) .tc main_v77)) := by
  rw [rowsOps, after_cons, after_nil, reshape_result]
  rfl

/-- The batches in one. -/
theorem sheetOps_main_v79 (V : Valuation τ sig (Elt Ideal)) :
    after sheetOps V (Proc.devRef (τ := τ) .tc main_v79) = sheetOf (V (Proc.devRef (τ := τ) .tc main_v78)) := by
  rw [sheetOps, after_cons, after_nil, reshape_result]
  rfl

/-- The result. -/
theorem roundOps_main_v80 (V : Valuation τ sig (Elt Ideal)) :
    after roundOps V (Proc.devRef (τ := τ) .tc main_v80) = roundOf (V (Proc.devRef (τ := τ) .tc main_v79)) := by
  rw [roundOps, after_cons, after_nil, unary_result]
  rfl

/-- What the stage does not write keeps its contents. -/
theorem splitOps_keep (V : Valuation τ sig (Elt Ideal)) (r : Ref sig .tc)
    (hr : r ∉ ([main_v0, main_v1, main_v2, main_v3, main_v4, main_v5, main_v6] : List (Ref sig .tc))) :
    after splitOps V (Proc.devRef (τ := τ) .tc r) = V (Proc.devRef (τ := τ) .tc r) :=
  after_of_writes_sub splitOps V (forall_writes_sub_of_map rfl) hr

/-- What the stage does not write keeps its contents. -/
theorem maskOps_keep (V : Valuation τ sig (Elt Ideal)) (r : Ref sig .tc)
    (hr : r ∉ ([main_v7, main_v8, main_v9, main_v10, main_c, main_v11, main_v12, main_v13, main_v14, main_v15, main_v16,
      main_v17, main_c_0, main_v18, main_v19, main_c_1, main_v20, main_v21, main_v22, main_c_2, main_v23, main_v24,
      main_c_3, main_v25, main_v26, main_v27, main_v28, main_v29, main_v30, main_c_4, main_v31, main_v32, main_v33,
      main_v34, main_v35, main_v36, main_v37, main_v38, main_v39] : List (Ref sig .tc))) :
    after maskOps V (Proc.devRef (τ := τ) .tc r) = V (Proc.devRef (τ := τ) .tc r) :=
  after_of_writes_sub maskOps V (forall_writes_sub_of_map rfl) hr

/-- What the stage does not write keeps its contents. -/
theorem bandOps_keep (V : Valuation τ sig (Elt Ideal)) (r : Ref sig .tc)
    (hr : r ∉ ([main_v40, main_v41, main_cst, main_v42, main_v43, main_v44, main_v45, main_v46, main_v47, main_v48, main_cst_5,
      main_v49, main_v50, main_v51, main_v52, main_v53] : List (Ref sig .tc))) :
    after bandOps V (Proc.devRef (τ := τ) .tc r) = V (Proc.devRef (τ := τ) .tc r) :=
  after_of_writes_sub bandOps V (forall_writes_sub_of_map rfl) hr

/-- What the stage does not write keeps its contents. -/
theorem scoreOps_keep (V : Valuation τ sig (Elt Ideal)) (r : Ref sig .tc)
    (hr : r ∉ ([main_v54, main_v55, main_cst_6, main_v56, main_v57, main_cst_7, main_call0_v0, main_call0_v1, main_call0_v2,
      main_v58] : List (Ref sig .tc))) :
    after scoreOps V (Proc.devRef (τ := τ) .tc r) = V (Proc.devRef (τ := τ) .tc r) :=
  after_of_writes_sub scoreOps V (forall_writes_sub_of_map rfl) hr

/-- What the stage does not write keeps its contents. -/
theorem topOps_keep (V : Valuation τ sig (Elt Ideal)) (r : Ref sig .tc)
    (hr : r ∉ ([main_v59, main_cst_8, main_v60, main_v61, main_v62, main_v63] : List (Ref sig .tc))) :
    after topOps V (Proc.devRef (τ := τ) .tc r) = V (Proc.devRef (τ := τ) .tc r) :=
  after_of_writes_sub topOps V (forall_writes_sub_of_map rfl) hr

/-- What the stage does not write keeps its contents. -/
theorem expOps_keep (V : Valuation τ sig (Elt Ideal)) (r : Ref sig .tc)
    (hr : r ∉ ([main_v64, main_v65, main_v66] : List (Ref sig .tc))) :
    after expOps V (Proc.devRef (τ := τ) .tc r) = V (Proc.devRef (τ := τ) .tc r) :=
  after_of_writes_sub expOps V (forall_writes_sub_of_map rfl) hr

/-- What the stage does not write keeps its contents. -/
theorem denOps_keep (V : Valuation τ sig (Elt Ideal)) (r : Ref sig .tc)
    (hr : r ∉ ([main_cst_9, main_v67, main_v68, main_v69, main_v70, main_v71, main_v72] : List (Ref sig .tc))) :
    after denOps V (Proc.devRef (τ := τ) .tc r) = V (Proc.devRef (τ := τ) .tc r) :=
  after_of_writes_sub denOps V (forall_writes_sub_of_map rfl) hr

/-- What the stage does not write keeps its contents. -/
theorem weightOps_keep (V : Valuation τ sig (Elt Ideal)) (r : Ref sig .tc)
    (hr : r ∉ ([main_v73, main_v74] : List (Ref sig .tc))) :
    after weightOps V (Proc.devRef (τ := τ) .tc r) = V (Proc.devRef (τ := τ) .tc r) :=
  after_of_writes_sub weightOps V (forall_writes_sub_of_map rfl) hr

/-- What the stage does not write keeps its contents. -/
theorem mixOps_keep (V : Valuation τ sig (Elt Ideal)) (r : Ref sig .tc)
    (hr : r ∉ ([main_v75, main_v76] : List (Ref sig .tc))) :
    after mixOps V (Proc.devRef (τ := τ) .tc r) = V (Proc.devRef (τ := τ) .tc r) :=
  after_of_writes_sub mixOps V (forall_writes_sub_of_map rfl) hr

/-- What the stage does not write keeps its contents. -/
theorem flatOps_keep (V : Valuation τ sig (Elt Ideal)) (r : Ref sig .tc)
    (hr : r ∉ ([main_v77] : List (Ref sig .tc))) :
    after flatOps V (Proc.devRef (τ := τ) .tc r) = V (Proc.devRef (τ := τ) .tc r) :=
  after_of_writes_sub flatOps V (forall_writes_sub_of_map rfl) hr

/-- What the stage does not write keeps its contents. -/
theorem rowsOps_keep (V : Valuation τ sig (Elt Ideal)) (r : Ref sig .tc)
    (hr : r ∉ ([main_v78] : List (Ref sig .tc))) :
    after rowsOps V (Proc.devRef (τ := τ) .tc r) = V (Proc.devRef (τ := τ) .tc r) :=
  after_of_writes_sub rowsOps V (forall_writes_sub_of_map rfl) hr

/-- What the stage does not write keeps its contents. -/
theorem sheetOps_keep (V : Valuation τ sig (Elt Ideal)) (r : Ref sig .tc)
    (hr : r ∉ ([main_v79] : List (Ref sig .tc))) :
    after sheetOps V (Proc.devRef (τ := τ) .tc r) = V (Proc.devRef (τ := τ) .tc r) :=
  after_of_writes_sub sheetOps V (forall_writes_sub_of_map rfl) hr

/-- What the stage does not write keeps its contents. -/
theorem roundOps_keep (V : Valuation τ sig (Elt Ideal)) (r : Ref sig .tc)
    (hr : r ∉ ([main_v80] : List (Ref sig .tc))) :
    after roundOps V (Proc.devRef (τ := τ) .tc r) = V (Proc.devRef (τ := τ) .tc r) :=
  after_of_writes_sub roundOps V (forall_writes_sub_of_map rfl) hr

/-- Operations run one list after the other. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- All the operations. -/
abbrev allOps : List (HloOp τ sig (Elt Ideal)) :=
  splitOps ++ (maskOps ++ (bandOps ++ (scoreOps ++ (topOps ++ (expOps ++ (denOps ++ (weightOps ++ (mixOps ++ (flatOps ++ (rowsOps ++ (sheetOps ++ roundOps)))))))))))

set_option maxHeartbeats 4000000 in
/-- The reference runs exactly these operations. -/
theorem main_eq (c : Dev nD) : main (F := Ideal) c = seq allOps := rfl

/-- It declares no scoped buffers. -/
theorem no_refs : (Finset.univ.filter fun b : Ref sig .tc => b.isScoped) = ∅ := by decide
/-- It declares no scoped semaphores. -/
theorem no_sems : (Finset.univ.filter fun sm : SemLoc sig => sm.isScoped .tc) = ∅ := by decide

/-- Two lists that name only the program's buffers do so together. -/
theorem forall_append {p : HloOp τ sig (Elt Ideal) → Prop} {l₁ l₂ : List (HloOp τ sig (Elt Ideal))}
    (h₁ : l₁.Forall p) (h₂ : l₂.Forall p) : (l₁ ++ l₂).Forall p := by
  rw [List.forall_iff_forall_mem] at h₁ h₂ ⊢
  exact fun x hx => (List.mem_append.mp hx).elim (h₁ x) (h₂ x)

/-- The stage names only the program's buffers. -/
theorem splitOps_sub : (splitOps : List (HloOp τ sig (Elt Ideal))).Forall fun op => op.bufs ⊆ tcRefs τ sig :=
  ⟨reshape_bufs_sub .., unary_bufs_sub .., unary_bufs_sub .., reshape_bufs_sub .., reshape_bufs_sub .., reshape_bufs_sub .., reshape_bufs_sub ..⟩

/-- The stage names only the program's buffers. -/
theorem maskOps_sub : (maskOps : List (HloOp τ sig (Elt Ideal))).Forall fun op => op.bufs ⊆ tcRefs τ sig :=
  ⟨nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., reshape_bufs_sub ..⟩

/-- The stage names only the program's buffers. -/
theorem bandOps_sub : (bandOps : List (HloOp τ sig (Elt Ideal))).Forall fun op => op.bufs ⊆ tcRefs τ sig :=
  ⟨reshape_bufs_sub .., unary_bufs_sub .., nullary_bufs_sub .., unary_bufs_sub .., unary_bufs_sub .., binary_bufs_sub .., binary_bufs_sub .., reshape_bufs_sub .., reshape_bufs_sub .., unary_bufs_sub .., nullary_bufs_sub .., unary_bufs_sub .., unary_bufs_sub .., binary_bufs_sub .., binary_bufs_sub .., reshape_bufs_sub ..⟩

/-- The stage names only the program's buffers. -/
theorem scoreOps_sub : (scoreOps : List (HloOp τ sig (Elt Ideal))).Forall fun op => op.bufs ⊆ tcRefs τ sig :=
  ⟨binary_bufs_sub .., unary_bufs_sub .., nullary_bufs_sub .., unary_bufs_sub .., binary_bufs_sub .., nullary_bufs_sub .., unary_bufs_sub .., unary_bufs_sub .., unary_bufs_sub .., ternary_bufs_sub ..⟩

/-- The stage names only the program's buffers. -/
theorem topOps_sub : (topOps : List (HloOp τ sig (Elt Ideal))).Forall fun op => op.bufs ⊆ tcRefs τ sig :=
  ⟨reshape_bufs_sub .., nullary_bufs_sub .., binary_bufs_sub .., unary_bufs_sub .., unary_bufs_sub .., binary_bufs_sub ..⟩

/-- The stage names only the program's buffers. -/
theorem expOps_sub : (expOps : List (HloOp τ sig (Elt Ideal))).Forall fun op => op.bufs ⊆ tcRefs τ sig :=
  ⟨unary_bufs_sub .., binary_bufs_sub .., unary_bufs_sub ..⟩

/-- The stage names only the program's buffers. -/
theorem denOps_sub : (denOps : List (HloOp τ sig (Elt Ideal))).Forall fun op => op.bufs ⊆ tcRefs τ sig :=
  ⟨nullary_bufs_sub .., binary_bufs_sub .., unary_bufs_sub .., unary_bufs_sub .., binary_bufs_sub .., unary_bufs_sub .., binary_bufs_sub ..⟩

/-- The stage names only the program's buffers. -/
theorem weightOps_sub : (weightOps : List (HloOp τ sig (Elt Ideal))).Forall fun op => op.bufs ⊆ tcRefs τ sig :=
  ⟨unary_bufs_sub .., binary_bufs_sub ..⟩

/-- The stage names only the program's buffers. -/
theorem mixOps_sub : (mixOps : List (HloOp τ sig (Elt Ideal))).Forall fun op => op.bufs ⊆ tcRefs τ sig :=
  ⟨binary_bufs_sub .., unary_bufs_sub ..⟩

/-- The stage names only the program's buffers. -/
theorem flatOps_sub : (flatOps : List (HloOp τ sig (Elt Ideal))).Forall fun op => op.bufs ⊆ tcRefs τ sig :=
  reshape_bufs_sub ..

/-- The stage names only the program's buffers. -/
theorem rowsOps_sub : (rowsOps : List (HloOp τ sig (Elt Ideal))).Forall fun op => op.bufs ⊆ tcRefs τ sig :=
  reshape_bufs_sub ..

/-- The stage names only the program's buffers. -/
theorem sheetOps_sub : (sheetOps : List (HloOp τ sig (Elt Ideal))).Forall fun op => op.bufs ⊆ tcRefs τ sig :=
  reshape_bufs_sub ..

/-- The stage names only the program's buffers. -/
theorem roundOps_sub : (roundOps : List (HloOp τ sig (Elt Ideal))).Forall fun op => op.bufs ⊆ tcRefs τ sig :=
  unary_bufs_sub ..

/-- The reference ends with its result at the composed stages and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80)
        = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c main_v80).trans ?_, (h c main_arg0).trans ?_, (h c main_arg1).trans ?_,
    (h c main_arg2).trans ?_⟩)
    (run_seq no_refs no_sems defs main (fun _ => allOps) main_eq
      (fun _ => forall_append splitOps_sub (forall_append maskOps_sub (forall_append bandOps_sub
        (forall_append scoreOps_sub (forall_append topOps_sub (forall_append expOps_sub (forall_append denOps_sub
        (forall_append weightOps_sub (forall_append mixOps_sub (forall_append flatOps_sub (forall_append rowsOps_sub
        (forall_append sheetOps_sub roundOps_sub)))))))))))) m ρ (fun _ => ?_))
  · exact List.forall_iff_forall_mem.mp (forall_fresh_of_map rfl)
  · rw [allOps, after_append', after_append', after_append', after_append', after_append', after_append', after_append', after_append', after_append', after_append', after_append', after_append', roundOps_main_v80, sheetOps_main_v79, rowsOps_main_v78, flatOps_main_v77, mixOps_main_v76,
      weightOps_main_v74, weightOps_keep _ main_v53 (by decide), denOps_main_v72, denOps_keep _ main_v53 (by decide), denOps_keep _ main_v66 (by decide),
      expOps_main_v66, expOps_keep _ main_v53 (by decide), expOps_keep _ main_v59 (by decide), expOps_keep _ main_v63 (by decide),
      topOps_main_v59, topOps_main_v63, topOps_keep _ main_v53 (by decide), topOps_keep _ main_v58 (by decide),
      scoreOps_main_v58, scoreOps_keep _ main_v53 (by decide), scoreOps_keep _ main_arg0 (by decide), bandOps_main_v53, bandOps_main_v46, bandOps_keep _ main_v6 (by decide),
      bandOps_keep _ main_v39 (by decide), bandOps_keep _ main_arg0 (by decide), maskOps_main_v39,
      maskOps_keep _ main_v4 (by decide), maskOps_keep _ main_v5 (by decide), maskOps_keep _ main_v6 (by decide),
      maskOps_keep _ main_arg0 (by decide), splitOps_main_v4, splitOps_main_v5, splitOps_main_v6,
      splitOps_keep _ main_arg0 (by decide)]
    rfl
  · rw [allOps, after_append', after_append', after_append', after_append', after_append', after_append', after_append', after_append', after_append', after_append', after_append', after_append', roundOps_keep _ main_arg0 (by decide), sheetOps_keep _ main_arg0 (by decide), rowsOps_keep _ main_arg0 (by decide), flatOps_keep _ main_arg0 (by decide), mixOps_keep _ main_arg0 (by decide), weightOps_keep _ main_arg0 (by decide), denOps_keep _ main_arg0 (by decide), expOps_keep _ main_arg0 (by decide), topOps_keep _ main_arg0 (by decide), scoreOps_keep _ main_arg0 (by decide), bandOps_keep _ main_arg0 (by decide), maskOps_keep _ main_arg0 (by decide), splitOps_keep _ main_arg0 (by decide)]
  · rw [allOps, after_append', after_append', after_append', after_append', after_append', after_append', after_append', after_append', after_append', after_append', after_append', after_append', roundOps_keep _ main_arg1 (by decide), sheetOps_keep _ main_arg1 (by decide), rowsOps_keep _ main_arg1 (by decide), flatOps_keep _ main_arg1 (by decide), mixOps_keep _ main_arg1 (by decide), weightOps_keep _ main_arg1 (by decide), denOps_keep _ main_arg1 (by decide), expOps_keep _ main_arg1 (by decide), topOps_keep _ main_arg1 (by decide), scoreOps_keep _ main_arg1 (by decide), bandOps_keep _ main_arg1 (by decide), maskOps_keep _ main_arg1 (by decide), splitOps_keep _ main_arg1 (by decide)]
  · rw [allOps, after_append', after_append', after_append', after_append', after_append', after_append', after_append', after_append', after_append', after_append', after_append', after_append', roundOps_keep _ main_arg2 (by decide), sheetOps_keep _ main_arg2 (by decide), rowsOps_keep _ main_arg2 (by decide), flatOps_keep _ main_arg2 (by decide), mixOps_keep _ main_arg2 (by decide), weightOps_keep _ main_arg2 (by decide), denOps_keep _ main_arg2 (by decide), expOps_keep _ main_arg2 (by decide), topOps_keep _ main_arg2 (by decide), scoreOps_keep _ main_arg2 (by decide), bandOps_keep _ main_arg2 (by decide), maskOps_keep _ main_arg2 (by decide), splitOps_keep _ main_arg2 (by decide)]

end Cert.AttnRefIdeal.Own

open Idealize.ShloMosaic Idealize.ShloMosaic.TcCoe Idealize.SL.Sem

namespace Cert.Own

/-- The attention's reference leaves its arguments as they were. -/
theorem attn_ref_frame : Cert.quiescent_AttnRefIdeal := by
  exact fun m g _ => (θ_run _ _ _).mono (fun r h => ⟨fun c => (h c).2, sem_eq_zero_of_no_sems (by rfl) r.2⟩)
    (Cert.AttnRefIdeal.Own.run m g)

end Cert.Own

end
-- ==== Proof.AttnRefValue.lean ====
/-
  The attention's own lines read at an index, stage by stage.
-/
module

public import proofs.«01_k».proof.Proof.AttnRefRun
public import Idealize.ShloMosaic.Lib.Pointwise
public import Idealize.ShloMosaic.Lib.Tactic.WordOmega
public import Idealize.ShloMosaic.Lib.Pipeline.ValueKit

@[expose] public section

set_option maxRecDepth 16384

noncomputable section

open Idealize.ShloMosaic Idealize.ShloMosaic.TcCoe Idealize.SL.Sem

namespace Cert.AttnRefIdeal.Own

open Cert.AttnRefIdeal Cert.AttnRefIdeal.Gen

/-- The word of minus infinity. -/
theorem neg_inf : Ideal.ofBits .f32 0xFF800000#32 = (⊥ : EReal) := by
  simp [Ideal.ofBits, Ideal.ieee]

/-- The keys at an index. -/
theorem keysOf_at (kv : R S16384x512) (b : Fin 2) (r : Fin 8192) (h : Fin 4) (d : Fin 64) :
    keysOf kv (ix4 b r h d) = kv (ix2 ⟨b.val * 8192 + r.val, by omega⟩ ⟨h.val * 64 + d.val, by omega⟩) := by
  pointwise [keysOf]

/-- The values at an index. -/
theorem valsOf_at (kv : R S16384x512) (b : Fin 2) (r : Fin 8192) (h : Fin 4) (d : Fin 64) :
    valsOf kv (ix4 b r h d) = kv (ix2 ⟨b.val * 8192 + r.val, by omega⟩ ⟨256 + (h.val * 64 + d.val), by omega⟩) := by
  pointwise [valsOf]

/-- The queries at an index. -/
theorem queriesOf_at (q : R S16384x1024) (n i : Fin 128) (h g : Fin 4) (d : Fin 64) :
    queriesOf q (ix5 n i h g d) = q (ix2 ⟨n.val * 128 + i.val, by omega⟩ ⟨h.val * 256 + g.val * 64 + d.val, by omega⟩) := by
  pointwise [queriesOf]

/-- The scores at an index. -/
theorem scoresOf_at (q : R S128x128x4x4x64) (k : R S128x256x4x64) (msk : B S128x1x1x128x256) (n : Fin 128) (h g : Fin 4)
    (i : Fin 128) (j : Fin 256) :
    scoresOf q k msk (ix5 n h g i j)
      = if msk (ix5 n 0 0 i j) = 1#1 then (∑ c : Fin 64, k (ix4 n j h c) * q (ix5 n i h g c)) * ((1 / 8 : ℝ) : EReal) else ⊥ := by
  pointwise [scoresOf]
  have h8 : Ideal.ofBits .f32 0x3E000000#32 = ((1 / 8 : ℝ) : EReal) := by
    simp [Ideal.ofBits, Ideal.ieee, -EReal.coe_mul]; norm_num
  rw [h8, neg_inf]
  rfl

/-- The greatest along the last axis, for any extents. -/
theorem greatest_at {n0 n1 n2 n3 n4 : Nat} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (e : Fin n3) :
    Host.reduce max x init h hu (ix4 a b c e)
      = Finset.univ.fold max (init (Shape.Idx.first hu)) fun k : Fin n4 => x (ix5 a b c e k) :=
  (Host.reduce_eq_fold max x init h hu _).trans (h.fold_fiber_r5_a4 (ix4 a b c e) max _ x)

/-- The greatest score of a row. -/
def peakOf (s : R S128x4x4x128x256) : R S128x4x4x128 :=
  Host.reduce FloatOps.maximumf s (constant (F := Ideal) S_ .f32 0xFF800000#32) reducesTo_S128x4x4x128x256_S128x4x4x128_d4 h_S_

/-- The greatest score at an index. -/
theorem peakOf_at (s : R S128x4x4x128x256) (n : Fin 128) (h g : Fin 4) (i : Fin 128) :
    peakOf s (ix4 n h g i) = Finset.univ.sup fun j : Fin 256 => s (ix5 n h g i j) := by
  refine (greatest_at s _ _ _ n h g i).trans ?_
  rw [show (constant (F := Ideal) S_ .f32 0xFF800000#32) (Shape.Idx.first h_S_) = (⊥ : EReal) from neg_inf]
  rfl

/-- The top, by way of the greatest score. -/
theorem topOf_eq (s : R S128x4x4x128x256) (sk : R S1x4x4x1x1) :
    topOf s sk = maximumf
      (broadcastInDim S128x4x4x128x1 ![0, 1, 2, 3] bcast_S128x4x4x128_S128x4x4x128x1_0_1_2_3 (peakOf s))
      (broadcastInDim S128x4x4x128x1 ![0, 1, 2, 3, 4] bcast_S1x4x4x1x1_S128x4x4x128x1_0_1_2_3_4 sk) := rfl

/-- The greater of two arrays at an index. -/
theorem maximumf_at {S : Shape} (x y : FVec Ideal S .f32) (i : S.Idx) : maximumf x y i = max (x i) (y i) := rfl

/-- A row's value spread over a last axis of extent one. -/
theorem spread_at (p : R S128x4x4x128) (n : Fin 128) (h g : Fin 4) (i : Fin 128) :
    broadcastInDim S128x4x4x128x1 ![0, 1, 2, 3] bcast_S128x4x4x128_S128x4x4x128x1_0_1_2_3 p (ix5 n h g i 0) = p (ix4 n h g i) := by
  pointwise

/-- The sinks spread over blocks and rows. -/
theorem spreadSink_at (sk : R S1x4x4x1x1) (n : Fin 128) (h g : Fin 4) (i : Fin 128) :
    broadcastInDim S128x4x4x128x1 ![0, 1, 2, 3, 4] bcast_S1x4x4x1x1_S128x4x4x128x1_0_1_2_3_4 sk (ix5 n h g i 0) = sk (ix5 0 h g 0 0) := by
  pointwise

/-- The top at an index. -/
theorem topOf_at (s : R S128x4x4x128x256) (sk : R S1x4x4x1x1) (n : Fin 128) (h g : Fin 4) (i : Fin 128) :
    topOf s sk (ix5 n h g i 0) = max (Finset.univ.sup fun j : Fin 256 => s (ix5 n h g i j)) (sk (ix5 0 h g 0 0)) := by
  rw [topOf_eq]
  refine (maximumf_at _ _ _).trans ?_
  rw [spread_at, spreadSink_at, peakOf_at]

/-- The sinks at an index. -/
theorem sinkOf_at (sk : R S16) (h g : Fin 4) : sinkOf sk (ix5 0 h g 0 0) = sk (ix1 ⟨h.val * 4 + g.val, by omega⟩) := by
  pointwise [sinkOf]

/-- The exponentials at an index. -/
theorem expsOf_at (s : R S128x4x4x128x256) (top : R S128x4x4x128x1) (n : Fin 128) (h g : Fin 4) (i : Fin 128) (j : Fin 256) :
    expsOf s top (ix5 n h g i j) = Ideal.exp (s (ix5 n h g i j) - top (ix5 n h g i 0)) := by
  pointwise [expsOf]

/-- The normaliser at an index. -/
theorem denOf_at (e : R S128x4x4x128x256) (sk : R S1x4x4x1x1) (top : R S128x4x4x128x1) (n : Fin 128) (h g : Fin 4) (i : Fin 128) :
    denOf e sk top (ix5 n h g i 0)
      = (∑ j : Fin 256, e (ix5 n h g i j)) + Ideal.exp (sk (ix5 0 h g 0 0) - top (ix5 n h g i 0)) := by
  pointwise [denOf]

/-- The weights at an index. -/
theorem weightsOf_at (e : R S128x4x4x128x256) (den : R S128x4x4x128x1) (n : Fin 128) (h g : Fin 4) (i : Fin 128) (j : Fin 256) :
    weightsOf e den (ix5 n h g i j) = Ideal.div (e (ix5 n h g i j)) (den (ix5 n h g i 0)) := by
  pointwise [weightsOf]

/-- The mixed values at an index. -/
theorem mixedOf_at (v : R S128x256x4x64) (w : R S128x4x4x128x256) (n i : Fin 128) (h g : Fin 4) (d : Fin 64) :
    mixedOf v w (ix5 n i h g d) = ∑ j : Fin 256, v (ix4 n j h d) * w (ix5 n h g i j) := by
  pointwise [mixedOf]

/-- The result's layout. -/
theorem out_at (x : R S128x128x4x4x64) (n i : Fin 128) (h g : Fin 4) (d : Fin 64) :
    roundOf (sheetOf (rowsOf (flatOf x))) (ix2 ⟨n.val * 128 + i.val, by omega⟩ ⟨h.val * 256 + g.val * 64 + d.val, by omega⟩)
      = x (ix5 n i h g d) := by
  pointwise [roundOf, sheetOf, rowsOf, flatOf]

/-- The mask at an index. -/
theorem maskOf_at (n i : Fin 128) (j : Fin 256) :
    maskOf (ix5 n 0 0 i j) = 1#1 ↔ (i.val < j.val ∧ j.val ≤ i.val + 128 ∧ (n.val % 64 ≠ 0 ∨ 128 ≤ j.val)) := by
  pointwise [maskOf]
  have hi := i.isLt
  have hj := j.isLt
  have hn : n.val % 64 < 64 := Nat.mod_lt _ (by norm_num)
  generalize n.val % 64 = b at hn ⊢
  generalize i.val = i at hi ⊢
  generalize j.val = j at hj ⊢
  have h1 : (IntOp.subi (IntOp.addi (BitVec.ofNat 32 i) 128#32) (BitVec.ofNat 32 j)).toNat = (i + 128 + 4294967296 - j) % 4294967296 := by
    simp only [IntOp.subi, IntOp.addi, BitVec.toNat_sub, BitVec.toNat_add, BitVec.toNat_ofNat]
    omega
  have h2 : (IntOp.addi (IntOp.subi (IntOp.muli (BitVec.ofNat 32 b) 128#32) 128#32) (BitVec.ofNat 32 j)).toNat
      = (b * 128 + j + 4294967296 - 128) % 4294967296 := by
    simp only [IntOp.subi, IntOp.addi, IntOp.muli, BitVec.toNat_sub, BitVec.toNat_add, BitVec.toNat_mul, BitVec.toNat_ofNat]
    omega
  generalize IntOp.subi (IntOp.addi (BitVec.ofNat 32 i) 128#32) (BitVec.ofNat 32 j) = w1 at h1 ⊢
  generalize IntOp.addi (IntOp.subi (IntOp.muli (BitVec.ofNat 32 b) 128#32) 128#32) (BitVec.ofNat 32 j) = w2 at h2 ⊢
  word_omega

/-- The band at an index. -/
theorem bandOf_at (x : R S2x8192x4x64) (n : Fin 128) (j : Fin 256) (h : Fin 4) (d : Fin 64) :
    bandOf x (ix4 n j h d) = if hj : j.val < 128 then (if hn : n.val % 64 < 1 then 0
        else x (ix4 ⟨n.val / 64, by omega⟩ ⟨(n.val % 64 - 1) * 128 + j.val, by omega⟩ h d))
      else x (ix4 ⟨n.val / 64, by omega⟩ ⟨n.val % 64 * 128 + (j.val - 128), by omega⟩ h d) := by
  pointwise [bandOf, shifted, paired]

end Cert.AttnRefIdeal.Own

end
-- ==== Proof.AttnEntry.lean ====
/-
  The attention call: the staged blocks read over the argument arrays, and both results at an entry.
-/
module

public import proofs.«01_k».proof.Proof.AttnBlock
public import proofs.«01_k».proof.Proof.AttnMath
public import proofs.«01_k».proof.Proof.AttnRefValue

@[expose] public section

set_option maxRecDepth 16384

noncomputable section

open Idealize.ShloMosaic Idealize.ShloMosaic.TcCoe Idealize.SL.Sem
open Idealize.ShloMosaic.Pipeline (Dat)

namespace Cert.AttnRefIdeal.Own

open Cert.AttnRefIdeal Cert.AttnRefIdeal.Gen
open Cert.AttnIdeal.Own (softRow)

/-- One row of the problem's attention is the softmax over its scores, the sink in the normaliser. -/
theorem attention_at (sink : R S16) (q : R S16384x1024) (kv : R S16384x512) (n i : Fin 128) (h g : Fin 4) (d : Fin 64) :
    attention sink q kv (ix2 ⟨n.val * 128 + i.val, by omega⟩ ⟨h.val * 256 + g.val * 64 + d.val, by omega⟩)
      = softRow (fun j => scoresOf (queriesOf q) (bandOf (keysOf kv)) maskOf (ix5 n h g i j)) (sink (ix1 ⟨h.val * 4 + g.val, by omega⟩))
          (fun j => bandOf (valsOf kv) (ix4 n j h d)) := by
  unfold attention softmaxOf
  rw [out_at, mixedOf_at]
  simp only [weightsOf_at, denOf_at, expsOf_at, topOf_at, sinkOf_at]
  rfl

end Cert.AttnRefIdeal.Own

namespace Cert.AttnIdeal.Own

open Cert.AttnIdeal Cert.AttnIdeal.Gen

/-- The index maps: point `t` stages rows `1024 t …` of the queries, keys and values, and the 128 rows before them. -/
theorem idx : ∀ t : Fin cfg0.N, win0_0.index t = ![0] ∧ win0_1.index t = ![t.val, 0] ∧ win0_2.index t = ![t.val, 0]
    ∧ win0_3.index t = ![t.val * 8 - 1, 0] ∧ win0_4.index t = ![t.val, 0] :=
  (by decide +kernel : ∀ t : Fin grid0.N, _)

/-- The second grid coordinate. -/
theorem coord : ∀ t : Fin cfg0.N, (grid0.coords t 1).val = t.val % 8 :=
  (by decide +kernel : ∀ t : Fin grid0.N, _)

/-- There are sixteen points. -/
theorem lt16 (t : Fin cfg0.N) : t.val < 16 := lt_of_lt_of_eq t.isLt N_0

variable (m : (ℓ : Loc nD τ sig) → Buf (Elt Ideal) ℓ)

/-- The scale of the scores. -/
theorem eighth : Ideal.ofBits .f32 0x3E000000#32 = ((1 / 8 : ℝ) : EReal) := by
  simp [Ideal.ofBits, Ideal.ieee, -EReal.coe_mul]; norm_num

/-- The staged sinks. -/
theorem sink_blk (c : Dev nD) (t : Fin cfg0.N) (h : Fin 16) :
    (show T S16 from iblk m c 0 t) (ix1 h) = (show T S16 from m ((c : Thread nD τ).loc main_arg0)) (ix1 h) := by
  blk_point [iblk, V, idx t]

/-- The staged queries, scaled. -/
theorem query_blk (c : Dev nD) (t : Fin cfg0.N) (r x : Fin 1024) :
    (show W S1024x1024 from iblk m c 1 t) (ix2 r x)
      = (show T S16384x1024 from m ((c : Thread nD τ).loc main_arg1)) (ix2 ⟨t.val * 1024 + r.val, by have := lt16 t; omega⟩ x) * ((1 / 8 : ℝ) : EReal) := by
  rw [← eighth]
  blk_point [iblk, V, idx t]

/-- The staged keys and values. -/
theorem rows_blk (c : Dev nD) (t : Fin cfg0.N) (r : Fin 1024) (x : Fin 512) :
    (show T S1024x512 from iblk m c 2 t) (ix2 r x)
      = (show T S16384x512 from m ((c : Thread nD τ).loc main_arg2)) (ix2 ⟨t.val * 1024 + r.val, by have := lt16 t; omega⟩ x) := by
  blk_point [iblk, V, idx t]

/-- The staged keys and values of the rows before. -/
theorem before_blk (c : Dev nD) (t : Fin cfg0.N) (r : Fin 128) (x : Fin 512) :
    (show T S128x512 from iblk m c 3 t) (ix2 r x)
      = (show T S16384x512 from m ((c : Thread nD τ).loc main_arg2)) (ix2 ⟨(t.val * 8 - 1) * 128 + r.val, by have := lt16 t; omega⟩ x) := by
  blk_point [iblk, V, idx t]

end Cert.AttnIdeal.Own

end
-- ==== Proof.AttnValue.lean ====
/-
  The attention call: over the reals, on finite sinks, queries and keys, the blocks the kernel leaves
  are the problem's attention.
-/
module

public import proofs.«01_k».proof.Defs
public import proofs.«01_k».proof.Proof.AttnEntry
public import Idealize.ShloMosaic.Lib.ReduceAll
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen
open Cert.AttnRefIdeal.Own (attention attention_at scoresOf scoresOf_at queriesOf queriesOf_at keysOf keysOf_at valsOf valsOf_at bandOf bandOf_at maskOf maskOf_at)

/-- A number of the extended line that is a real number. -/
abbrev IsReal (x : EReal) : Prop := x ≠ ⊤ ∧ x ≠ ⊥

/-- A product of real numbers is below infinity. -/
theorem mul_ne_top {x y : EReal} (hx : IsReal x) (hy : IsReal y) : x * y ≠ ⊤ := by
  lift x to ℝ using hx
  lift y to ℝ using hy
  rw [← EReal.coe_mul]
  exact EReal.coe_ne_top _

/-- A real number times an eighth is real. -/
theorem scaled_real {x : EReal} (hx : IsReal x) : IsReal (x * ((1 / 8 : ℝ) : EReal)) := by
  lift x to ℝ using hx
  rw [← EReal.coe_mul]
  exact ⟨EReal.coe_ne_top _, EReal.coe_ne_bot _⟩

/-- The keys and values of row `k` of the 256 that block `n` sees, where there are that many rows before. -/
def pairRow (kv : T S16384x512) (n : Fin 128) (k : Fin 256) (x : Fin 512) : EReal :=
  kv (ix2 ⟨n.val * 128 + k.val - 128, by omega⟩ x)

/-- One score of the problem: the query against a row its band reaches, scaled. -/
theorem score_at (q : T S16384x1024) (kv : T S16384x512) (n i : Fin 128) (h g : Fin 4) (k : Fin 256) :
    scoresOf (queriesOf q) (bandOf (keysOf kv)) maskOf (ix5 n h g i k)
      = if i.val < k.val ∧ k.val ≤ i.val + 128 ∧ (n.val % 64 ≠ 0 ∨ 128 ≤ k.val) then
          (∑ c : Fin 64, pairRow kv n k ⟨h.val * 64 + c.val, by omega⟩ * q (ix2 ⟨n.val * 128 + i.val, by omega⟩ ⟨h.val * 256 + g.val * 64 + c.val, by omega⟩)) * ((1 / 8 : ℝ) : EReal)
        else ⊥ := by
  rw [scoresOf_at]
  simp only [maskOf_at]
  refine if_ctx_congr Iff.rfl (fun hm => ?_) fun _ => rfl
  refine congrArg (· * _) (Finset.sum_congr rfl fun c _ => ?_)
  rw [queriesOf_at, bandOf_at]
  refine congrArg (· * _) ?_
  unfold pairRow
  by_cases hk : k.val < 128
  · rw [dif_pos hk, dif_neg (by omega), keysOf_at]
    exact congrArg (fun a => kv (ix2 a _)) (Fin.ext (by dsimp only; omega))
  · rw [dif_neg hk, keysOf_at]
    exact congrArg (fun a => kv (ix2 a _)) (Fin.ext (by dsimp only; omega))

/-- One value of the problem, where its band reaches. -/
theorem value_at (kv : T S16384x512) (n : Fin 128) (h : Fin 4) (d : Fin 64) (k : Fin 256) (hk : n.val % 64 ≠ 0 ∨ 128 ≤ k.val) :
    bandOf (valsOf kv) (ix4 n k h d) = pairRow kv n k ⟨256 + (h.val * 64 + d.val), by omega⟩ := by
  rw [bandOf_at]
  unfold pairRow
  by_cases hk' : k.val < 128
  · rw [dif_pos hk', dif_neg (by omega), valsOf_at]
    exact congrArg (fun a => kv (ix2 a _)) (Fin.ext (by dsimp only; omega))
  · rw [dif_neg hk', valsOf_at]
    exact congrArg (fun a => kv (ix2 a _)) (Fin.ext (by dsimp only; omega))

variable (m : (ℓ : Loc nD τ sig) → Buf (Elt Ideal) ℓ)

/-- The sinks. -/
abbrev sinkArg (c : Dev nD) : T S16 := m ((c : Thread nD τ).loc main_arg0)
/-- The queries. -/
abbrev queryArg (c : Dev nD) : T S16384x1024 := m ((c : Thread nD τ).loc main_arg1)
/-- The keys and values. -/
abbrev kvArg (c : Dev nD) : T S16384x512 := m ((c : Thread nD τ).loc main_arg2)

/-- The row block that trip `t'` of point `t` works on. -/
abbrev blockOf (t : Fin cfg0.N) (t' : Fin 8) : Fin 128 := ⟨t.val * 8 + t'.val, by have := lt16 t; omega⟩

/-- The rows a trip sees are those of its row block and the one before. -/
theorem seen_at (c : Dev nD) (t : Fin cfg0.N) (t' : Fin 8) (k : Fin 256) (x : Fin 512) (hk : (blockOf t t').val % 64 ≠ 0 ∨ 128 ≤ k.val)
    (hb : 128 * t'.val + k.val < 1152) :
    seen (iblk m c 2 t) (iblk m c 3 t) ⟨128 * t'.val + k.val, hb⟩ x = pairRow (kvArg m c) (blockOf t t') k x := by
  have h16 := lt16 t
  have hk : (t.val * 8 + t'.val) % 64 ≠ 0 ∨ 128 ≤ k.val := hk
  unfold seen pairRow
  by_cases h : 128 * t'.val + k.val < 128
  · rw [dif_pos h]
    refine (before_blk m c t _ x).trans (congrArg (fun a => kvArg m c (ix2 a x)) (Fin.ext ?_))
    show (t.val * 8 - 1) * 128 + (128 * t'.val + k.val) = (t.val * 8 + t'.val) * 128 + k.val - 128
    omega
  · rw [dif_neg h]
    refine (rows_blk m c t _ x).trans (congrArg (fun a => kvArg m c (ix2 a x)) (Fin.ext ?_))
    show t.val * 1024 + (128 * t'.val + k.val - 128) = (t.val * 8 + t'.val) * 128 + k.val - 128
    omega

/-- A product of a scaled query with a row that a trip sees. -/
theorem dot_at (c : Dev nD) (t : Fin cfg0.N) (t' : Fin 8) (h g : Fin 4) (r : Fin 128) (k : Fin 256) (hk : (blockOf t t').val % 64 ≠ 0 ∨ 128 ≤ k.val)
    (hb : 128 * t'.val + k.val < 1152) :
    ∑ e : Fin 64, (show W S1024x1024 from iblk m c 1 t) (ix2 ⟨128 * t'.val + r.val, by omega⟩ ⟨64 * (h.val * 4 + g.val) + e.val, by omega⟩)
        * seen (iblk m c 2 t) (iblk m c 3 t) ⟨128 * t'.val + k.val, hb⟩ ⟨64 * h.val + e.val, by omega⟩
      = (∑ e : Fin 64, pairRow (kvArg m c) (blockOf t t') k ⟨h.val * 64 + e.val, by omega⟩
          * queryArg m c (ix2 ⟨(blockOf t t').val * 128 + r.val, by omega⟩ ⟨h.val * 256 + g.val * 64 + e.val, by omega⟩)) * ((1 / 8 : ℝ) : EReal) := by
  have h16 := lt16 t
  refine Eq.trans (Finset.sum_congr rfl fun e _ => ?_) (score_scale
    (fun e => queryArg m c (ix2 ⟨(blockOf t t').val * 128 + r.val, by omega⟩ ⟨h.val * 256 + g.val * 64 + e.val, by omega⟩))
    (fun e => pairRow (kvArg m c) (blockOf t t') k ⟨h.val * 64 + e.val, by omega⟩)
    (c := ((1 / 8 : ℝ) : EReal)) (EReal.coe_nonneg.mpr (by norm_num)) (EReal.coe_ne_top _))
  rw [seen_at m c t t' k _ hk hb]
  refine congrArg₂ (· * ·) ((query_blk m c t _ _).trans (congrArg (· * _) ?_)) ?_
  · refine congrArg₂ (fun a b => queryArg m c (ix2 a b)) (Fin.ext ?_) (Fin.ext ?_)
    · show t.val * 1024 + (128 * t'.val + r.val) = (t.val * 8 + t'.val) * 128 + r.val
      omega
    · show 64 * (h.val * 4 + g.val) + e.val = h.val * 256 + g.val * 64 + e.val
      omega
  · exact congrArg (pairRow (kvArg m c) (blockOf t t') k) (Fin.ext (by dsimp only; omega))

/-- The sinks, the queries and the keys are real numbers. -/
structure Finite (sink : T S16) (q : T S16384x1024) (kv : T S16384x512) : Prop where
  /-- The sinks. -/
  sink : ∀ h, IsReal (sink (ix1 h))
  /-- The queries. -/
  query : ∀ r x, IsReal (q (ix2 r x))
  /-- The keys. -/
  key : ∀ r (x : Fin 512), x.val < 256 → IsReal (kv (ix2 r x))

/-- The block's scores over the arguments. -/
theorem blockScore_at (c : Dev nD) (t : Fin cfg0.N) (t' : Fin 8) (h g : Fin 4) (r j : Fin 128) :
    blockScore (grid0.coords t) (iblk m c 1 t) (iblk m c 2 t) (iblk m c 3 t) t' h g r j
      = if r.val < j.val then scoresOf (queriesOf (queryArg m c)) (bandOf (keysOf (kvArg m c))) maskOf (ix5 (blockOf t t') h g r (lo j))
        else scoresOf (queriesOf (queryArg m c)) (bandOf (keysOf (kvArg m c))) maskOf (ix5 (blockOf t t') h g r (hi j)) := by
  have h16 := lt16 t
  unfold blockScore
  rw [coord t, score_at, score_at]
  have e : (blockOf t t').val = t.val * 8 + t'.val := rfl
  by_cases hj : r.val < j.val
  · rw [if_pos hj]
    by_cases hn : t.val % 8 = 0 ∧ t'.val = 0
    · rw [if_pos ⟨hj, hn⟩, if_pos hj, if_neg (by rw [e]; show ¬ (r.val < j.val ∧ j.val ≤ r.val + 128 ∧ (_ ∨ 128 ≤ j.val)); omega)]
    · rw [if_neg (by omega), if_pos hj, if_pos (by rw [e]; show r.val < j.val ∧ j.val ≤ r.val + 128 ∧ _; omega)]
      exact dot_at m c t t' h g r (lo j) (Or.inl (by rw [e]; omega)) (by dsimp only; omega)
  · rw [if_neg hj, if_neg (by omega), if_neg hj, if_pos (by show r.val < 128 + j.val ∧ 128 + j.val ≤ r.val + 128 ∧ (_ ∨ 128 ≤ 128 + j.val); omega)]
    exact dot_at m c t t' h g r (hi j) (Or.inr (by dsimp only; omega)) (by dsimp only; omega)

/-- A score is below infinity. -/
theorem score_ne_top {sink : T S16} {q : T S16384x1024} {kv : T S16384x512} (hf : Finite sink q kv) (n i : Fin 128) (h g : Fin 4) (k : Fin 256) :
    scoresOf (queriesOf q) (bandOf (keysOf kv)) maskOf (ix5 n h g i k) ≠ ⊤ := by
  rw [score_at]
  split
  · rw [sum_mul_real _ _ (EReal.coe_nonneg.mpr (by norm_num)) (EReal.coe_ne_top _)]
    refine sum_ne_top _ _ fun c _ => ?_
    rw [mul_assoc]
    exact mul_ne_top (hf.key _ _ (by dsimp only; omega)) (scaled_real (hf.query _ _))
  · exact bot_ne_top

/-- The kernel's result array is the problem's attention. -/
theorem final (c : Dev nD) (hf : Finite (sinkArg m c) (queryArg m c) (kvArg m c)) :
    (dats m 0 c).arrAt 4 cfg0.N = attention (sinkArg m c) (queryArg m c) (kvArg m c) := by
  refine (dats m 0 c).arrAt_eq_of_covers 4 _ (by decide +kernel) fun t _ y => ?_
  have h16 := lt16 t
  blk_simp
  rw [after0_4]
  obtain ⟨a, b, rfl⟩ : ∃ (a b : Fin 1024), y = ix2 a b := ⟨y 0, y 1, eq_ix2 y⟩
  obtain ⟨t', r, rfl⟩ : ∃ (t' : Fin 8) (r : Fin 128), a = ⟨128 * t'.val + r.val, by omega⟩ :=
    ⟨⟨a.val / 128, by omega⟩, ⟨a.val % 128, by omega⟩, Fin.ext (by dsimp only; omega)⟩
  obtain ⟨h, g, d, rfl⟩ : ∃ (h g : Fin 4) (d : Fin 64), b = ⟨h.val * 256 + g.val * 64 + d.val, by omega⟩ :=
    ⟨⟨b.val / 256, by omega⟩, ⟨b.val / 64 % 4, by omega⟩, ⟨b.val % 64, by omega⟩, Fin.ext (by dsimp only; omega)⟩
  have e : (blockOf t t').val = t.val * 8 + t'.val := rfl
  have he : (win0_4.blk t).view.emb (ix2 (⟨128 * t'.val + r.val, by omega⟩ : Fin 1024) (⟨h.val * 256 + g.val * 64 + d.val, by omega⟩ : Fin 1024))
      = (ix2 (⟨(blockOf t t').val * 128 + r.val, by omega⟩ : Fin 16384) (⟨h.val * 256 + g.val * 64 + d.val, by omega⟩ : Fin 1024)) := by
    funext x
    match x with
    | 0 =>
      apply Fin.ext
      blk_simp [idx t]
      show t.val * 1024 + (128 * t'.val + r.val) = (t.val * 8 + t'.val) * 128 + r.val
      omega
    | 1 => apply Fin.ext; blk_simp [idx t]
  rw [he, attention_at]
  refine (block_at c (grid0.coords t) _ _ _ _ _ _ _ _ _ _ _ _ _ _ (iblk m c 0 t) (iblk m c 1 t) (iblk m c 2 t) (iblk m c 3 t) t' r h g d).trans ?_
  have hz := hf.sink ⟨h.val * 4 + g.val, by omega⟩
  have hs : (show T S16 from iblk m c 0 t) (ix1 ⟨h.val * 4 + g.val, by omega⟩) = sinkArg m c (ix1 ⟨h.val * 4 + g.val, by omega⟩) := sink_blk m c t _
  rw [show (iblk m c 0 t) (ix1 ⟨h.val * 4 + g.val, by omega⟩) = sinkArg m c (ix1 ⟨h.val * 4 + g.val, by omega⟩) from hs]
  generalize sinkArg m c (ix1 ⟨h.val * 4 + g.val, by omega⟩) = z at hz ⊢
  lift z to ℝ using hz
  refine rowOut_eq r _ _ z _ _ _ (fun j => ?_) (fun j => ?_) (fun j => ?_) (fun j hj hb => ?_) (fun j hj => ?_)
  · rw [blockScore_at]
    split
    · exact score_ne_top hf _ _ _ _ _
    · exact score_ne_top hf _ _ _ _ _
  · rw [blockScore_at]
    by_cases hj : r.val < j.val
    · rw [if_pos hj, if_pos hj]
    · rw [if_neg hj, score_at, if_neg (by show ¬ (r.val < j.val ∧ _); omega)]
  · rw [blockScore_at]
    by_cases hj : r.val < j.val
    · rw [if_pos hj, score_at, if_neg (by show ¬ (r.val < 128 + j.val ∧ 128 + j.val ≤ r.val + 128 ∧ _); omega)]
    · rw [if_neg hj, if_neg hj]
  · rw [blockScore_at, if_pos hj, score_at] at hb
    have hn : (blockOf t t').val % 64 ≠ 0 ∨ 128 ≤ (lo j).val := by
      by_contra hc
      exact hb (if_neg fun hm => hc hm.2.2)
    rw [value_at _ _ _ _ _ hn]
    exact (seen_at m c t t' (lo j) _ hn (by dsimp only; omega)).symm
  · have hn : (blockOf t t').val % 64 ≠ 0 ∨ 128 ≤ (hi j).val := Or.inr (by dsimp only; omega)
    rw [value_at _ _ _ _ _ hn]
    refine Eq.trans (seen_at m c t t' (hi j) _ hn (by dsimp only; omega)).symm ?_
    exact congrArg (fun a => seen (iblk m c 2 t) (iblk m c 3 t) a _) (Fin.ext (by dsimp only; omega))

/-- Strictly between the two infinities lie the real numbers. -/
theorem real_of_between {x : EReal}
    (h : IntOp.andi (FloatOps.cmpf (F := Ideal) (φ := .f32) .ogt x (Ideal.ofBits .f32 0xFF800000#32)) (FloatOps.cmpf (F := Ideal) (φ := .f32) .olt x (Ideal.ofBits .f32 0x7F800000#32)) = 1#1) : IsReal x := by
  obtain ⟨h1, h2⟩ := (both_iff _ _).mp h
  have hlo : Ideal.ofBits .f32 0xFF800000#32 = (⊥ : EReal) := by simp [Ideal.ofBits, Ideal.ieee]
  have hhi : Ideal.ofBits .f32 0x7F800000#32 = (⊤ : EReal) := by simp [Ideal.ofBits, Ideal.ieee]
  rw [hlo] at h1
  rw [hhi] at h2
  have ho : ∀ p : Prop, [Decidable p] → BitVec.ofBool (decide p) = 1#1 → p := by
    intro p _ hp
    by_contra hn
    simp [hn] at hp
  exact ⟨fun e => absurd (ho _ h2) (by rw [e]; exact lt_irrefl _), fun e => absurd (ho _ h1) (by rw [e]; exact lt_irrefl _)⟩

/-- Three conditions in one word. -/
theorem three {a b c : BitVec 1} (h : IntOp.andi (IntOp.andi a b) c = 1#1) : a = 1#1 ∧ b = 1#1 ∧ c = 1#1 :=
  ⟨((both_iff _ _).mp ((both_iff _ _).mp h).1).1, ((both_iff _ _).mp ((both_iff _ _).mp h).1).2, ((both_iff _ _).mp h).2⟩

/-- The precondition's result has one entry. -/
instance : Subsingleton Cert.Pre_finite.S_.Idx := ⟨fun a b => funext fun x => x.elim0⟩

/-- The precondition says that the sinks, the queries and the keys are real numbers. -/
theorem finite_of_pre [Cert.Pre_finite.Facts] (c : Dev nD) (h : Pre_AttnIdeal_finite m) : Finite (sinkArg m c) (queryArg m c) (kvArg m c) := by
  have hc := congrFun (h c) (Shape.Idx.first Cert.Pre_finite.Facts.h_S_)
  unfold Cert.Pre_finite.fn Cert.Pre_finite.fn_part1 at hc
  obtain ⟨h0, h1, h2⟩ := three hc
  refine ⟨fun a => real_of_between ?_, fun r x => real_of_between ?_, fun r x hx => real_of_between ?_⟩
  · exact Host.reduce_andi_all _ _ _ _ _ h0 (ix1 a)
  · exact Host.reduce_andi_all _ _ _ _ _ h1 (ix2 r x)
  · refine Eq.trans ?_ (Host.reduce_andi_all _ _ _ _ _ h2 (ix2 r (⟨x.val, hx⟩ : Fin 256)))
    pointwise []

end Cert.AttnIdeal.Own

namespace Cert.Own

/-- Over the reals, on finite sinks, queries and keys, the attention call leaves what the problem's lines compute. -/
theorem attn_algebraic [Cert.Pre_finite.Facts] : Cert.algebraic_AttnIdeal_AttnRefIdeal_pre_finite := by
  intro m g m' g' hp ha
  refine ⟨fun c => Cert.AttnRefIdeal.Own.attention (Cert.AttnIdeal.Own.sinkArg m c) (Cert.AttnIdeal.Own.queryArg m c) (Cert.AttnIdeal.Own.kvArg m c),
    (θ_run _ _ _).mono (fun r h c => ?_) (Cert.AttnIdeal.Value.run_blocks m g), (θ_run _ _ _).mono (fun r h c => ?_) (Cert.AttnRefIdeal.Own.run m' g')⟩
  · exact ⟨(h c).1.trans (Cert.AttnIdeal.Own.final m c (Cert.AttnIdeal.Own.finite_of_pre m c hp)), (h c).2⟩
  · refine ⟨(h c).1.trans ?_, (h c).2⟩
    rw [(ha c).1, (ha c).2.1, (ha c).2.2]

end Cert.Own

end
-- ==== Proof.MixValue.lean ====
/-
  The mixing call: what it leaves in its two result arrays, read at an index, equals the problem's
  own lines (gate, project, add the residual; then normalise the row and scale).
-/
module

public import proofs.«01_k».proof.Defs
public import proofs.«01_k».proof.Proof.Gen.MixIdeal.Value
public import proofs.«01_k».proof.Proof.Gen.MixRefIdeal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixIdeal.Own

open Cert.MixIdeal Cert.MixIdeal.Gen

/-- The mixed branches at row `r`, column `j`: gate 0 times the attention projection plus gate 1
    times the convolution projection. -/
def gated (att ycp : FVec Ideal S16384x1024 .bf16) (g : FVec Ideal S16384x4096 .bf16)
    (wa wc : FVec Ideal S1024x2048 .f32) (r : Fin 16384) (j : Fin 2048) : EReal :=
  g (ix2 r ⟨(j : ℕ), by omega⟩) * (∑ k : Fin 1024, att (ix2 r k) * wa (ix2 k j))
    + g (ix2 r ⟨2048 + (j : ℕ), by omega⟩) * (∑ k : Fin 1024, ycp (ix2 r k) * wc (ix2 k j))

/-- The residual stream after the mixer at row `r`, column `d`. -/
def hAt (att ycp : FVec Ideal S16384x1024 .bf16) (g : FVec Ideal S16384x4096 .bf16)
    (x : FVec Ideal S16384x2048 .f32)
    (wa wc : FVec Ideal S1024x2048 .f32) (wo : FVec Ideal S2048x2048 .f32)
    (r : Fin 16384) (d : Fin 2048) : EReal :=
  x (ix2 r d) + ∑ j : Fin 2048, gated att ycp g wa wc r j * wo (ix2 j d)

/-- The factor a row is multiplied by when it is normalised: one over the root of the mean square
    plus the small constant. -/
def rmsFactor (row : Fin 2048 → EReal) : EReal :=
  Ideal.rsqrt (Ideal.div (∑ k : Fin 2048, row k * row k) (Ideal.ofBits .f32 0x45000000#32)
    + Ideal.ofBits .f32 0x358637BD#32)

/-- The first half's store of the residual stream, at an index. -/
theorem pay2_at (v0 : Vec Ideal S256x1024 .bf16) (v1 : Vec Ideal S1024x2048 .bf16) (v4 : Vec Ideal S256x1024 .bf16)
    (v5 : Vec Ideal S1024x2048 .bf16) (v8 v11 : Vec Ideal S256x2048 .bf16) (v15 : Vec Ideal S256x2048 .f32)
    (v17 : Vec Ideal S2048x2048 .bf16) (r : Fin 256) (d : Fin 2048) :
    k0_pay2 (F := Ideal) v0 v1 v4 v5 v8 v11 v15 v17 (ix2 r d)
      = v15 (ix2 r d) + ∑ j : Fin 2048, (v8 (ix2 r j) * (∑ k : Fin 1024, v0 (ix2 r k) * v1 (ix2 k j))
          + v11 (ix2 r j) * (∑ k : Fin 1024, v4 (ix2 r k) * v5 (ix2 k j))) * v17 (ix2 j d) := by
  pointwise [k0_pay2]

/-- The second half's store is the same arithmetic. -/
theorem pay6_eq (v0 : Vec Ideal S256x1024 .bf16) (v1 : Vec Ideal S1024x2048 .bf16) (v4 : Vec Ideal S256x1024 .bf16)
    (v5 : Vec Ideal S1024x2048 .bf16) (v8 v11 : Vec Ideal S256x2048 .bf16) (v15 : Vec Ideal S256x2048 .f32)
    (v17 : Vec Ideal S2048x2048 .bf16) :
    k0_pay6 (F := Ideal) v0 v1 v4 v5 v8 v11 v15 v17 = k0_pay2 (F := Ideal) v0 v1 v4 v5 v8 v11 v15 v17 := rfl

/-- The normalised store of the first half, at an index, over the residual stream's half `h`. -/
theorem pay5_at (h : FVec Ideal S256x2048 .f32) (v0 : Vec Ideal S256x1024 .bf16) (v1 : Vec Ideal S1024x2048 .bf16) (v4 : Vec Ideal S256x1024 .bf16)
    (v5 : Vec Ideal S1024x2048 .bf16) (v8 v11 : Vec Ideal S256x2048 .bf16) (v15 : Vec Ideal S256x2048 .f32)
    (v17 : Vec Ideal S2048x2048 .bf16) (g : Vec Ideal S1x2048 .f32) (r : Fin 256) (d : Fin 2048)
    (hh : h = k0_pay2 (F := Ideal) v0 v1 v4 v5 v8 v11 v15 v17) :
    k0_pay5 (F := Ideal) (k0_pay2 (F := Ideal) v0 v1 v4 v5 v8 v11 v15 v17) (k0_pay3 (F := Ideal) g)
        (k0_pay4 (F := Ideal) v0 v1 v4 v5 v8 v11 v15 v17) (ix2 r d)
      = h (ix2 r d) * rmsFactor (fun k => h (ix2 r k)) * g (ix2 0 d) := by
  unfold k0_pay4
  rw [← hh]
  pointwise [k0_pay5, k0_pay3, rmsFactor]

/-- The normalised store of the second half, at an index. -/
theorem pay1_at (h : FVec Ideal S256x2048 .f32) (v0 : Vec Ideal S256x1024 .bf16) (v1 : Vec Ideal S1024x2048 .bf16) (v4 : Vec Ideal S256x1024 .bf16)
    (v5 : Vec Ideal S1024x2048 .bf16) (v8 v11 : Vec Ideal S256x2048 .bf16) (v15 : Vec Ideal S256x2048 .f32)
    (v17 : Vec Ideal S2048x2048 .bf16) (g : Vec Ideal S1x2048 .f32) (r : Fin 256) (d : Fin 2048)
    (hh : h = k0_pay6 (F := Ideal) v0 v1 v4 v5 v8 v11 v15 v17) :
    k0_pay1 (F := Ideal) (k0_pay6 (F := Ideal) v0 v1 v4 v5 v8 v11 v15 v17) (k0_pay7 (F := Ideal) g)
        (k0_pay8 (F := Ideal) v0 v1 v4 v5 v8 v11 v15 v17) (ix2 r d)
      = h (ix2 r d) * rmsFactor (fun k => h (ix2 r k)) * g (ix2 0 d) := by
  unfold k0_pay8
  rw [← hh]
  pointwise [k0_pay1, k0_pay7, rmsFactor]

/-- The index maps: point `t` stages rows `512 t …` of the row-tiled arrays and the whole of the weights. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- What the body leaves in the residual output's block, at an index, over its staged blocks. -/
theorem out8_at (x0 x1 : Vec Ideal S512x1024 .bf16) (x2 : Vec Ideal S512x4096 .bf16) (x3 : Vec Ideal S512x2048 .f32)
    (x4 x5 : Vec Ideal S1024x2048 .bf16) (x6 : Vec Ideal S2048x2048 .bf16) (x7 : Vec Ideal S1x2048 .f32)
    (r : Fin 512) (d : Fin 2048) :
    out0_8 (F := Ideal) x0 x1 x2 x3 x4 x5 x6 x7 (ix2 r d)
      = x3 (ix2 r d) + ∑ j : Fin 2048, (x2 (ix2 r ⟨(j : ℕ), by omega⟩) * (∑ k : Fin 1024, x0 (ix2 r k) * x4 (ix2 k j))
          + x2 (ix2 r ⟨2048 + (j : ℕ), by omega⟩) * (∑ k : Fin 1024, x1 (ix2 r k) * x5 (ix2 k j))) * x6 (ix2 j d) := by
  unfold out0_8
  canon_tiles x h <;> simp only [ix2_0, ix2_1] at h0 h1
  · pointwise [k0_pay6]
    blk_point []
  · pointwise [k0_pay2]
    blk_point []

/-- The half's normalised row, over the store of the residual stream it is computed from. -/
theorem out9_at (x0 x1 : Vec Ideal S512x1024 .bf16) (x2 : Vec Ideal S512x4096 .bf16) (x3 : Vec Ideal S512x2048 .f32)
    (x4 x5 : Vec Ideal S1024x2048 .bf16) (x6 : Vec Ideal S2048x2048 .bf16) (x7 : Vec Ideal S1x2048 .f32)
    (r : Fin 512) (d : Fin 2048) :
    out0_9 (F := Ideal) x0 x1 x2 x3 x4 x5 x6 x7 (ix2 r d)
      = out0_8 (F := Ideal) x0 x1 x2 x3 x4 x5 x6 x7 (ix2 r d)
        * rmsFactor (fun k => out0_8 (F := Ideal) x0 x1 x2 x3 x4 x5 x6 x7 (ix2 r k)) * x7 (ix2 0 d) := by
  have e : ∀ k : Fin 2048, out0_8 (F := Ideal) x0 x1 x2 x3 x4 x5 x6 x7 (ix2 r k) = _ :=
    fun k => out8_at x0 x1 x2 x3 x4 x5 x6 x7 r k
  simp only [e]
  unfold out0_9
  canon_tiles x h <;> simp only [ix2_0, ix2_1] at h0 h1
  · idx_vars x
    refine (pay1_at _ _ _ _ _ _ _ _ _ _ _ _ rfl).trans ?_
    pointwise [k0_pay6, rmsFactor]
    blk_point []
  · idx_vars x
    refine (pay5_at _ _ _ _ _ _ _ _ _ _ _ _ rfl).trans ?_
    pointwise [k0_pay2, rmsFactor]
    blk_point []

/-- The array the residual output ends holding. -/
def hArr (att ycp : FVec Ideal S16384x1024 .bf16) (g : FVec Ideal S16384x4096 .bf16)
    (x : FVec Ideal S16384x2048 .f32)
    (wa wc : FVec Ideal S1024x2048 .f32) (wo : FVec Ideal S2048x2048 .f32) : FVec Ideal S16384x2048 .f32 :=
  fun i => hAt att ycp g x wa wc wo (i 0) (i 1)

/-- The array the normalised output ends holding. -/
def nArr (att ycp : FVec Ideal S16384x1024 .bf16) (g : FVec Ideal S16384x4096 .bf16)
    (x : FVec Ideal S16384x2048 .f32)
    (wa wc : FVec Ideal S1024x2048 .f32) (wo : FVec Ideal S2048x2048 .f32) (gn : FVec Ideal S2048 .f32) : FVec Ideal S16384x2048 .bf16 :=
  fun i => hAt att ycp g x wa wc wo (i 0) (i 1) * rmsFactor (fun k => hAt att ycp g x wa wc wo (i 0) k) * gn (ix1 (i 1))

variable (m : (ℓ : Loc nD τ sig) → Buf (Elt Ideal) ℓ)

/-- The residual output's array after the run. -/
theorem final8 (c : Dev nD) : (dats m 0 c).arrAt 8 cfg0.N
    = hArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp
  rw [after0_8]
  obtain ⟨r, d, rfl⟩ : ∃ (r : Fin 512) (d : Fin 2048), y = ix2 r d := ⟨y 0, y 1, eq_ix2 y⟩
  refine (out8_at _ _ _ _ _ _ _ _ r d).trans ?_
  unfold hArr hAt gated
  blk_point [iblk, V, idx t]

/-- The residual output's block at a point is the residual array's block there. -/
theorem out8_blk (c : Dev nD) (t : Fin cfg0.N) (r : Fin 512) (d : Fin 2048) :
    out0_8 (F := Ideal) (iblk m c 0 t) (iblk m c 1 t) (iblk m c 2 t) (iblk m c 3 t) (iblk m c 4 t) (iblk m c 5 t) (iblk m c 6 t)
        (iblk m c 7 t) (ix2 r d)
      = hAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) ⟨t.val * 512 + (r : ℕ), by have := lt_of_lt_of_eq t.isLt N_0; omega⟩ d := by
  refine (out8_at _ _ _ _ _ _ _ _ r d).trans ?_
  unfold hAt gated
  blk_point [iblk, V, idx t]

/-- The normalised output's array after the run. -/
theorem final9 (c : Dev nD) : (dats m 0 c).arrAt 9 cfg0.N
    = nArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 9 _ (by decide +kernel) fun t hf y => ?_
  blk_simp
  rw [after0_9]
  obtain ⟨r, d, rfl⟩ : ∃ (r : Fin 512) (d : Fin 2048), y = ix2 r d := ⟨y 0, y 1, eq_ix2 y⟩
  refine (out9_at _ _ _ _ _ _ _ _ r d).trans ?_
  simp only [out8_blk m c t]
  unfold nArr
  have e0 : ((win0_9.blk t).view.emb (ix2 r d)) 0 = (⟨t.val * 512 + (r : ℕ), by have := lt_of_lt_of_eq t.isLt N_0; omega⟩ : Fin 16384) := by
    apply Fin.ext; blk_simp [idx t]
  have e1 : ((win0_9.blk t).view.emb (ix2 r d)) 1 = d := by
    apply Fin.ext; blk_simp [idx t]
  rw [e0, e1]
  blk_point [iblk, V, idx t]

end Cert.MixIdeal.Own

namespace Cert.MixRefIdeal.Own

open Cert.MixRefIdeal Cert.MixRefIdeal.Gen Cert.MixRefIdeal.Read

/-- The reference's residual stream at an index. -/
theorem h_at (x0 x1 : FVec Ideal S16384x1024 .bf16) (x2 : FVec Ideal S16384x4096 .bf16) (x3 : FVec Ideal S16384x2048 .f32)
    (x4 x5 : FVec Ideal S1024x2048 .f32) (x6 : FVec Ideal S2048x2048 .f32) (r : Fin 16384) (d : Fin 2048) :
    val_main_v14 (F := Ideal) x0 x1 x2 x3 x4 x5 x6 (ix2 r d) = Cert.MixIdeal.Own.hAt x0 x1 x2 x3 x4 x5 x6 r d := by
  pointwise [val_main_v14, val_main_v13, val_main_v12, val_main_v11, val_main_v10, val_main_v9, val_main_v8, val_main_v7,
    val_main_v6, val_main_v5, val_main_v4, val_main_v3, val_main_v2, val_main_v1, val_main_v0,
    Cert.MixIdeal.Own.hAt, Cert.MixIdeal.Own.gated]

/-- The reference's normalised row at an index. -/
theorem n_at (x0 x1 : FVec Ideal S16384x1024 .bf16) (x2 : FVec Ideal S16384x4096 .bf16) (x3 : FVec Ideal S16384x2048 .f32)
    (x4 x5 : FVec Ideal S1024x2048 .f32) (x6 : FVec Ideal S2048x2048 .f32) (x7 : FVec Ideal S2048 .f32) (r : Fin 16384) (d : Fin 2048) :
    val_main_v28 (F := Ideal) x0 x1 x2 x3 x4 x5 x6 x7 (ix2 r d)
      = val_main_v14 (F := Ideal) x0 x1 x2 x3 x4 x5 x6 (ix2 r d)
        * Cert.MixIdeal.Own.rmsFactor (fun k => val_main_v14 (F := Ideal) x0 x1 x2 x3 x4 x5 x6 (ix2 r k)) * x7 (ix1 d) := by
  pointwise [val_main_v28, val_main_v27, val_main_v26, val_main_v25, val_main_v24, val_main_v23, val_main_v22, val_main_v21,
    val_main_v20, val_main_v19, val_main_v18, val_main_v17, val_main_v16, val_main_v15, val_main_cst, val_main_cst_0, val_main_cst_1,
    Cert.MixIdeal.Own.rmsFactor]

/-- The reference's residual stream, as a whole array. -/
theorem h_arr (x0 x1 : FVec Ideal S16384x1024 .bf16) (x2 : FVec Ideal S16384x4096 .bf16) (x3 : FVec Ideal S16384x2048 .f32)
    (x4 x5 : FVec Ideal S1024x2048 .f32) (x6 : FVec Ideal S2048x2048 .f32) :
    val_main_v14 (F := Ideal) x0 x1 x2 x3 x4 x5 x6 = Cert.MixIdeal.Own.hArr x0 x1 x2 x3 x4 x5 x6 := by
  funext i
  obtain ⟨r, d, rfl⟩ : ∃ (r : Fin 16384) (d : Fin 2048), i = ix2 r d := ⟨i 0, i 1, eq_ix2 i⟩
  exact h_at x0 x1 x2 x3 x4 x5 x6 r d

/-- The reference's normalised rows, as a whole array. -/
theorem n_arr (x0 x1 : FVec Ideal S16384x1024 .bf16) (x2 : FVec Ideal S16384x4096 .bf16) (x3 : FVec Ideal S16384x2048 .f32)
    (x4 x5 : FVec Ideal S1024x2048 .f32) (x6 : FVec Ideal S2048x2048 .f32) (x7 : FVec Ideal S2048 .f32) :
    val_main_v28 (F := Ideal) x0 x1 x2 x3 x4 x5 x6 x7 = Cert.MixIdeal.Own.nArr x0 x1 x2 x3 x4 x5 x6 x7 := by
  funext i
  obtain ⟨r, d, rfl⟩ : ∃ (r : Fin 16384) (d : Fin 2048), i = ix2 r d := ⟨i 0, i 1, eq_ix2 i⟩
  refine (n_at x0 x1 x2 x3 x4 x5 x6 x7 r d).trans ?_
  simp only [h_at]
  rfl

end Cert.MixRefIdeal.Own

namespace Cert.Own

/-- Over the reals, the mixing call leaves in its two results what the problem's lines compute. -/
theorem mix_algebraic : Cert.algebraic_MixIdeal_MixRefIdeal := by
  pair_intro
  · run_from Cert.MixIdeal.Value.run_blocks m g
  · run_from Cert.MixRefIdeal.Value.run m' g'
    · refine (Cert.MixRefIdeal.Read.val_main_v14_eq (F := Ideal) _ _ _ _ _ _ _).trans
        ((Cert.MixRefIdeal.Own.h_arr _ _ _ _ _ _ _).trans (Cert.MixIdeal.Own.final8 m c).symm)
    · refine (Cert.MixRefIdeal.Read.val_main_v28_eq (F := Ideal) _ _ _ _ _ _ _ _).trans
        ((Cert.MixRefIdeal.Own.n_arr _ _ _ _ _ _ _ _).trans (Cert.MixIdeal.Own.final9 m c).symm)

/-- The reference of the mixing call leaves its arguments as they were. -/
theorem mix_ref_frame : Cert.quiescent_MixRefIdeal := by
  exact fun m g _ => (θ_run _ _ _).mono (fun r h => ⟨fun c => (h c).2.2, sem_eq_zero_of_no_sems (by rfl) r.2⟩)
    (Cert.MixRefIdeal.Value.run m g)

end Cert.Own

end
-- ==== Proof.MlpValue.lean ====
/-
  The feed-forward call: four grid points per row block add one quarter of the hidden width each into
  the block, and the last of them normalises the rows. The result, read at an index, equals the
  problem's own lines: the residual plus the squared rectified hidden layer times the down projection,
  normalised and scaled.
-/
module

public import proofs.«01_k».proof.Defs
public import proofs.«01_k».proof.Proof.Gen.MlpIdeal.Value
public import proofs.«01_k».proof.Proof.Gen.MlpRefIdeal.Read
public import proofs.«01_k».proof.Proof.MixValue
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpIdeal.Own

open Cert.MlpIdeal Cert.MlpIdeal.Gen
open Cert.MixIdeal.Own (rmsFactor)

/-- One hidden unit of row `r`: the rectified up projection. -/
def hid (hn : FVec Ideal S16384x2048 .bf16) (wu : FVec Ideal S2048x8192 .f32) (r : Fin 16384) (f : Fin 8192) : EReal :=
  max (∑ k : Fin 2048, hn (ix2 r k) * wu (ix2 k f)) 0

/-- The residual stream after the feed-forward part at row `r`, column `d`. -/
def yAt (hn : FVec Ideal S16384x2048 .bf16) (h : FVec Ideal S16384x2048 .f32) (wu : FVec Ideal S2048x8192 .f32)
    (wd : FVec Ideal S8192x2048 .f32) (r : Fin 16384) (d : Fin 2048) : EReal :=
  h (ix2 r d) + ∑ f : Fin 8192, hid hn wu r f * hid hn wu r f * wd (ix2 f d)

/-- What one point adds: the accumulator plus its quarter of the hidden width. -/
theorem pay1_at (v3 : Vec Ideal S512x2048 .bf16) (v4 : Vec Ideal S2048x2048 .bf16) (v9 : Vec Ideal S512x2048 .f32)
    (v13 : Vec Ideal S2048x2048 .bf16) (r : Fin 512) (d : Fin 2048) :
    k0_pay1 (F := Ideal) v3 v4 v9 v13 (ix2 r d)
      = v9 (ix2 r d) + ∑ f : Fin 2048, max (∑ k : Fin 2048, v3 (ix2 r k) * v4 (ix2 k f)) 0
          * max (∑ k : Fin 2048, v3 (ix2 r k) * v4 (ix2 k f)) 0 * v13 (ix2 f d) := by
  pointwise [k0_pay1]

/-- The last point's normalisation of the accumulated rows. -/
theorem pay2_at (y : Vec Ideal S512x2048 .f32) (g : Vec Ideal S1x2048 .f32) (r : Fin 512) (d : Fin 2048) :
    k0_pay2 (F := Ideal) y g (ix2 r d) = y (ix2 r d) * rmsFactor (fun k => y (ix2 r k)) * g (ix2 0 d) := by
  pointwise [k0_pay2, rmsFactor]

/-- The index maps: point `t` works on row block `t / 4` and on quarter `t % 4` of the hidden width. -/
theorem idx : ∀ t : Fin cfg0.N, win0_0.index t = ![t.val / 4, 0] ∧ win0_1.index t = ![t.val / 4, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- Point `s` of the run of four that `t` belongs to. -/
abbrev pt (t : Fin cfg0.N) (s : Fin 4) : Fin cfg0.N :=
  ⟨4 * (t.val / 4) + (s : ℕ), lt_of_lt_of_eq (by have := lt_of_lt_of_eq t.isLt N_0; omega) N_0.symm⟩

/-- The index maps over a run. -/
theorem idx_pt (t : Fin cfg0.N) (s : Fin 4) : win0_0.index (pt t s) = ![t.val / 4, 0]
    ∧ win0_1.index (pt t s) = ![t.val / 4, 0] ∧ win0_2.index (pt t s) = ![0, (s : ℕ)]
    ∧ win0_3.index (pt t s) = ![(s : ℕ), 0] ∧ win0_4.index (pt t s) = ![0, 0] := by
  have h1 : (pt t s).val / 4 = t.val / 4 := by show (4 * (t.val / 4) + (s : ℕ)) / 4 = _; omega
  have h2 : (pt t s).val % 4 = (s : ℕ) := by show (4 * (t.val / 4) + (s : ℕ)) % 4 = _; omega
  obtain ⟨a, b, c, d, e, -⟩ := idx (pt t s)
  rw [h1] at a b; rw [h2] at c d
  exact ⟨a, b, c, d, e⟩

variable (m : (ℓ : Loc nD τ sig) → Buf (Elt Ideal) ℓ)

/-- The rows after the first point of `t`'s run. -/
def acc0 (c : Dev nD) (t : Fin cfg0.N) : Vec Ideal S512x2048 .f32 :=
  k0_pay1 (iblk m c 0 (pt t 0)) (iblk m c 2 (pt t 0)) (iblk m c 1 (pt t 0)) (iblk m c 3 (pt t 0))

/-- The rows after the second point. -/
def acc1 (c : Dev nD) (t : Fin cfg0.N) : Vec Ideal S512x2048 .f32 :=
  k0_pay1 (iblk m c 0 (pt t 1)) (iblk m c 2 (pt t 1)) (acc0 m c t) (iblk m c 3 (pt t 1))

/-- The rows after the third point. -/
def acc2 (c : Dev nD) (t : Fin cfg0.N) : Vec Ideal S512x2048 .f32 :=
  k0_pay1 (iblk m c 0 (pt t 2)) (iblk m c 2 (pt t 2)) (acc1 m c t) (iblk m c 3 (pt t 2))

/-- The rows after the fourth point, before they are normalised. -/
def acc3 (c : Dev nD) (t : Fin cfg0.N) : Vec Ideal S512x2048 .f32 :=
  k0_pay1 (iblk m c 0 (pt t 3)) (iblk m c 2 (pt t 3)) (acc2 m c t) (iblk m c 3 (pt t 3))

/-- What the block holds at the last point of a run. -/
theorem buf_last (c : Dev nD) (t : Fin cfg0.N) (hm : t.val % 4 = 3) :
    outsAt0 m c t.val t.isLt = k0_pay2 (acc3 m c t) (iblk m c 4 (pt t 3)) := by
  rw [Cert.MlpIdeal.Value.outsAt_5_eq]
  have e : ∀ (j : ℕ) (h : 4 * (t.val / 4) + j < cfg0.N) (h' : 4 * (t.val / 4) + 3 < cfg0.N), j = 3 →
      Pipeline.accAt (Value.reset5 m c) (Value.step5 m c) (4 * (t.val / 4)) j h
        = Pipeline.accAt (Value.reset5 m c) (Value.step5 m c) (4 * (t.val / 4)) 3 h' := by
    intro j h h' hj; subst hj; rfl
  rw [e _ _ (pt t 3).isLt hm]
  rw [Pipeline.accAt_succ, Pipeline.accAt_succ, Pipeline.accAt_succ]
  unfold Value.step5
  rw [if_neg (by omega), if_pos (by omega), if_pos (by omega), if_pos (by omega)]
  rfl

/-- The quarter of the hidden sum that point `s` of the run adds. -/
def part (c : Dev nD) (t : Fin cfg0.N) (r : Fin 512) (d : Fin 2048) (s : Fin 4) : EReal :=
  ∑ f : Fin 2048, max (∑ k : Fin 2048, (show FVec Ideal S512x2048 .bf16 from iblk m c 0 (pt t s)) (ix2 r k) * (show FVec Ideal S2048x2048 .bf16 from iblk m c 2 (pt t s)) (ix2 k f)) 0
    * max (∑ k : Fin 2048, (show FVec Ideal S512x2048 .bf16 from iblk m c 0 (pt t s)) (ix2 r k) * (show FVec Ideal S2048x2048 .bf16 from iblk m c 2 (pt t s)) (ix2 k f)) 0
      * (show FVec Ideal S2048x2048 .bf16 from iblk m c 3 (pt t s)) (ix2 f d)

/-- The accumulated rows at the end of a run: the residual plus the four quarters. -/
theorem acc_at (c : Dev nD) (t : Fin cfg0.N) (r : Fin 512) (d : Fin 2048) :
    acc3 m c t (ix2 r d) = (show FVec Ideal S512x2048 .f32 from iblk m c 1 (pt t 0)) (ix2 r d) + ∑ s : Fin 4, part m c t r d s := by
  rw [Fin.sum_univ_four]
  rw [← add_assoc, ← add_assoc, ← add_assoc]
  unfold acc3 acc2 acc1 acc0
  refine (pay1_at _ _ _ _ r d).trans (congrArg₂ (· + ·) ?_ rfl)
  refine (pay1_at _ _ _ _ r d).trans (congrArg₂ (· + ·) ?_ rfl)
  refine (pay1_at _ _ _ _ r d).trans (congrArg₂ (· + ·) ?_ rfl)
  exact pay1_at _ _ _ _ r d

/-- The accumulated rows of a row block are the residual stream's rows. -/
theorem acc_eq (c : Dev nD) (t : Fin cfg0.N) (r : Fin 512) (d : Fin 2048) :
    acc3 m c t (ix2 r d) = yAt (m ((c : Thread nD τ).loc main_arg0)) (m ((c : Thread nD τ).loc main_arg1))
      (m ((c : Thread nD τ).loc main_arg2)) (m ((c : Thread nD τ).loc main_arg3))
      ⟨t.val / 4 * 512 + (r : ℕ), by have := lt_of_lt_of_eq t.isLt N_0; omega⟩ d := by
  rw [acc_at]
  unfold yAt
  rw [Fin.sum_univ_tiles 4 2048 rfl]
  unfold part hid
  blk_point [iblk, V, idx_pt t]

/-- The normalised rows at row `r`, column `d`. -/
def outAt (hn : FVec Ideal S16384x2048 .bf16) (h : FVec Ideal S16384x2048 .f32) (wu : FVec Ideal S2048x8192 .f32)
    (wd : FVec Ideal S8192x2048 .f32) (g : FVec Ideal S2048 .f32) (r : Fin 16384) (d : Fin 2048) : EReal :=
  yAt hn h wu wd r d * rmsFactor (fun k => yAt hn h wu wd r k) * g (ix1 d)

/-- The whole result array. -/
def outArr (hn : FVec Ideal S16384x2048 .bf16) (h : FVec Ideal S16384x2048 .f32) (wu : FVec Ideal S2048x8192 .f32)
    (wd : FVec Ideal S8192x2048 .f32) (g : FVec Ideal S2048 .f32) : FVec Ideal S16384x2048 .f32 :=
  fun i => outAt hn h wu wd g (i 0) (i 1)

/-- The kernel's result array. -/
theorem final (c : Dev nD) : (dats m 0 c).arrAt 5 cfg0.N
    = outArr (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have hm : t.val % 4 = 3 := (flush0_5 t).mp hf
  blk_simp
  rw [after0_5, buf_last m c t hm]
  obtain ⟨r, d, rfl⟩ : ∃ (r : Fin 512) (d : Fin 2048), y = ix2 r d := ⟨y 0, y 1, eq_ix2 y⟩
  refine (pay2_at _ _ r d).trans ?_
  simp only [acc_eq m c t]
  unfold outArr outAt
  have e0 : ((win0_5.blk t).view.emb (ix2 r d)) 0 = (⟨t.val / 4 * 512 + (r : ℕ), by have := lt_of_lt_of_eq t.isLt N_0; omega⟩ : Fin 16384) := by
    apply Fin.ext; blk_simp [idx t]
  have e1 : ((win0_5.blk t).view.emb (ix2 r d)) 1 = d := by
    apply Fin.ext; blk_simp [idx t]
  rw [e0, e1]
  blk_point [iblk, V, idx_pt t]

end Cert.MlpIdeal.Own

namespace Cert.MlpRefIdeal.Own

open Cert.MlpRefIdeal Cert.MlpRefIdeal.Read
open Cert.MlpIdeal.Own (hid yAt outAt outArr)
open Cert.MixIdeal.Own (rmsFactor)

/-- The residual stream of the problem's lines. -/
theorem y_at (x0 : FVec Ideal S16384x2048 .bf16) (x1 : FVec Ideal S16384x2048 .f32) (x2 : FVec Ideal S2048x8192 .f32)
    (x3 : FVec Ideal S8192x2048 .f32) (r : Fin 16384) (d : Fin 2048) :
    val_main_v5 (F := Ideal) x0 x1 x2 x3 (ix2 r d) = yAt x0 x1 x2 x3 r d := by
  pointwise [val_main_v5, val_main_v4, val_main_v3, val_main_v2, val_main_call0_v0, val_main_call0_cst, val_main_v1, val_main_v0, yAt, hid]

/-- The problem's result at an index. -/
theorem out_at (x0 : FVec Ideal S16384x2048 .bf16) (x1 : FVec Ideal S16384x2048 .f32) (x2 : FVec Ideal S2048x8192 .f32)
    (x3 : FVec Ideal S8192x2048 .f32) (x4 : FVec Ideal S2048 .f32) (r : Fin 16384) (d : Fin 2048) :
    val_main_v18 (F := Ideal) x0 x1 x2 x3 x4 (ix2 r d)
      = val_main_v5 (F := Ideal) x0 x1 x2 x3 (ix2 r d)
        * rmsFactor (fun k => val_main_v5 (F := Ideal) x0 x1 x2 x3 (ix2 r k)) * x4 (ix1 d) := by
  pointwise [val_main_v18, val_main_v17, val_main_v16, val_main_v15, val_main_v14, val_main_v13, val_main_v12, val_main_v11,
    val_main_v10, val_main_v9, val_main_v8, val_main_v7, val_main_v6, val_main_cst, val_main_cst_0, val_main_cst_1, rmsFactor]

/-- The problem's result, as a whole array. -/
theorem out_arr (x0 : FVec Ideal S16384x2048 .bf16) (x1 : FVec Ideal S16384x2048 .f32) (x2 : FVec Ideal S2048x8192 .f32)
    (x3 : FVec Ideal S8192x2048 .f32) (x4 : FVec Ideal S2048 .f32) :
    val_main_v18 (F := Ideal) x0 x1 x2 x3 x4 = outArr x0 x1 x2 x3 x4 := by
  funext i
  obtain ⟨r, d, rfl⟩ : ∃ (r : Fin 16384) (d : Fin 2048), i = ix2 r d := ⟨i 0, i 1, eq_ix2 i⟩
  refine (out_at x0 x1 x2 x3 x4 r d).trans ?_
  simp only [y_at]
  rfl

end Cert.MlpRefIdeal.Own

namespace Cert.Own

/-- Over the reals, the feed-forward call leaves in its result what the problem's lines compute. -/
theorem mlp_algebraic : Cert.algebraic_MlpIdeal_MlpRefIdeal := by
  pair_intro
  · run_from Cert.MlpIdeal.Value.run_blocks m g
  · run_from Cert.MlpRefIdeal.Value.run m' g'
    exact (Cert.MlpRefIdeal.Read.val_main_v18_eq (F := Ideal) _ _ _ _ _).trans
      ((Cert.MlpRefIdeal.Own.out_arr _ _ _ _ _).trans (Cert.MlpIdeal.Own.final m c).symm)

/-- The reference of the feed-forward call leaves its arguments as they were. -/
theorem mlp_ref_frame : Cert.quiescent_MlpRefIdeal := by
  exact fun m g _ => (θ_run _ _ _).mono (fun r h => ⟨fun c => (h c).2, sem_eq_zero_of_no_sems (by rfl) r.2⟩)
    (Cert.MlpRefIdeal.Value.run m g)

end Cert.Own

end
-- ==== Proof.ProjRow.lean ====
/-
  The projection call: what one row of the input gives in each part of the combined projection, and the
  arithmetic of one grid point's stores over its staged blocks.
-/
module

public import proofs.«01_k».proof.Defs
public import proofs.«01_k».proof.Proof.Gen.ProjIdeal.Skeleton
public import proofs.«01_k».proof.Proof.MixValue
public import Idealize.ShloMosaic.Lib.Pointwise

@[expose] public section

set_option maxRecDepth 16384

noncomputable section

open Idealize.ShloMosaic Idealize.ShloMosaic.TcCoe Idealize.SL.Sem

namespace Cert.ProjIdeal.Own

open Cert.ProjIdeal Cert.ProjIdeal.Gen
open Cert.MixIdeal.Own (rmsFactor)

/-- A row normalised, scaled, and multiplied with one column of the weights. -/
def lin (row g w : Fin 2048 → EReal) : EReal :=
  ∑ k : Fin 2048, row k * rmsFactor row * g k * w k

/-- The logistic function, as both programs write it. -/
def sigm (z : EReal) : EReal :=
  Ideal.div (Ideal.ofBits .f32 0x3F800000#32) (Ideal.ofBits .f32 0x3F800000#32 + Ideal.exp (-z))

/-- The normalised rows. -/
theorem pay4_at (v16 : Vec Ideal S256x2048 .f32) (v17 : Vec Ideal S1x2048 .f32) (r : Fin 256) (k : Fin 2048) :
    k0_pay4 (F := Ideal) v16 v17 (ix2 r k) = v16 (ix2 r k) * rmsFactor (fun j => v16 (ix2 r j)) * v17 (ix2 0 k) := by
  pointwise [k0_pay4, rmsFactor]

/-- The queries before they are scaled. -/
theorem pay5_at (v16 : Vec Ideal S256x2048 .f32) (v17 : Vec Ideal S1x2048 .f32) (v32 : Vec Ideal S2048x1024 .bf16)
    (r : Fin 256) (d : Fin 1024) :
    k0_pay5 (F := Ideal) v16 v17 v32 (ix2 r d)
      = lin (fun k => v16 (ix2 r k)) (fun k => v17 (ix2 0 k)) (fun k => v32 (ix2 k d)) := by
  pointwise [k0_pay5, lin, rmsFactor]
  simp only [pay4_at, rmsFactor]

/-- The queries' scaling. -/
theorem pay7_at (a : FVec Ideal S256x1024 .f32) (r : Fin 256) (d : Fin 1024) :
    k0_pay7 (F := Ideal) a (k0_pay6 (F := Ideal)) (ix2 r d) = a (ix2 r d) * Ideal.ofBits .f32 0x3E000000#32 := by
  pointwise [k0_pay7, k0_pay6]

/-- The keys and values. -/
theorem pay8_at (n : FVec Ideal S256x2048 .bf16) (w : Vec Ideal S2048x512 .bf16) (r : Fin 256) (d : Fin 512) :
    k0_pay8 (F := Ideal) n w (ix2 r d) = ∑ k : Fin 2048, n (ix2 r k) * w (ix2 k d) := by
  pointwise [k0_pay8]

/-- The gated linear unit. -/
theorem pay9_at (n : FVec Ideal S256x2048 .bf16) (wa wb : Vec Ideal S2048x1024 .bf16) (r : Fin 256) (d : Fin 1024) :
    k0_pay9 (F := Ideal) n wa wb (ix2 r d)
      = (∑ k : Fin 2048, n (ix2 r k) * wa (ix2 k d)) * sigm (∑ k : Fin 2048, n (ix2 r k) * wb (ix2 k d)) := by
  pointwise [k0_pay9, sigm]
  rw [sub_eq_add_neg, zero_add]

/-- The branches' gates. -/
theorem pay10_at (n : FVec Ideal S256x2048 .bf16) (w : Vec Ideal S2048x4096 .bf16) (b : Vec Ideal S1x4096 .f32)
    (r : Fin 256) (d : Fin 4096) :
    k0_pay10 (F := Ideal) n w b (ix2 r d) = sigm ((∑ k : Fin 2048, n (ix2 r k) * w (ix2 k d)) + b (ix2 0 d)) := by
  pointwise [k0_pay10, sigm]
  rw [sub_eq_add_neg, zero_add]

/-- The last rows of a block. -/
theorem pay11_at (u : FVec Ideal S256x1024 .f32) (r : Fin 32) (d : Fin 1024) :
    k0_pay11 (F := Ideal) u (ix2 r d) = u (ix2 ⟨224 + (r : ℕ), by omega⟩ d) := by
  pointwise [k0_pay11]

end Cert.ProjIdeal.Own

end
-- ==== Proof.ProjBlock.lean ====
/-
  The projection call's kernel: what one grid point leaves in its blocks of the queries, the keys and values, the
  gates and the last rows, read at an index over the blocks it loads.
-/
module

public import proofs.«01_k».proof.Proof.ProjRow
public import proofs.«01_k».proof.Proof.Gen.ProjIdeal.Value
public import Idealize.ShloMosaic.Lib.WholeRead
public import Idealize.ShloMosaic.Lib.WritesUnit

@[expose] public section

set_option maxRecDepth 65536

noncomputable section

open Idealize.ShloMosaic Idealize.ShloMosaic.TcCoe Idealize.SL.Sem

namespace Cert.ProjIdeal.Own

open Cert.ProjIdeal Cert.ProjIdeal.Gen

/-- A load through a rectangle of a buffer that holds `x`. -/
theorem loaded {m n m' n' : Nat} {e : EltTy} {sp : Space} (M : Memref Cert.ProjIdeal.sig .tc sp (⟨2, ![m, n]⟩ : Shape) e) (h : M.IsWhole)
    (x : (⟨2, ![m, n]⟩ : Shape).Idx → Elt Ideal e) {off : Fin 2 → Nat} (inb) (a b : Nat) (ho : off = ![a, b])
    (r : Fin m') (c : Fin n') (r' : Fin m) (c' : Fin n) (hr : r'.val = a + r.val) (hc : c'.val = b + c.val) :
    View.readAt (Elt Ideal) M.view (Rect.unit (s := (⟨2, ![m, n]⟩ : Shape)) off (⟨2, ![m', n']⟩ : Shape).size inb).toLoadRect (h.unread x) (ix2 r c)
      = x (ix2 r' c') := by
  have e1 : (Rect.unit (s := (⟨2, ![m, n]⟩ : Shape)) off (⟨2, ![m', n']⟩ : Shape).size inb).toLoadRect.idx (ix2 r c) = ix2 r' c' := by
    subst ho
    funext t
    match t with
    | 0 => exact Fin.ext (by show a + 1 * r.val = r'.val; omega)
    | 1 => exact Fin.ext (by show b + 1 * c.val = c'.val; omega)
  exact (congrArg (M.view.read (Elt Ideal) (h.unread x)) e1).trans (congrFun (h.read_unread x) _)

/-- The combined projection of a row of a block. -/
def blkLin (x0 : Vec Ideal S256x2048 .f32) (x1 : Vec Ideal S1x2048 .f32) (x2 : Vec Ideal S2048x7680 .bf16) (r : Fin 256) (c : Fin 7680) : EReal :=
  lin (fun k => x0 (ix2 r k)) (fun k => x1 (ix2 0 k)) (fun k => x2 (ix2 k c))

/-- The normalised rows times a column of the weights. -/
theorem dot_at (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (x0 : Vec Ideal S256x2048 .f32) (x1 : Vec Ideal S1x2048 .f32) (x2 : Vec Ideal S2048x7680 .bf16) (r : Fin 256) (w : Fin 2048 → EReal) (c : Fin 7680) (hw : ∀ k, w k = x2 (ix2 k c)) :
    ∑ k : Fin 2048, (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (ix2 r k) * w k = blkLin x0 x1 x2 r c := by
  have ex : ∀ k : Fin 2048, (View.readAt (Elt Ideal) arg1.view (Rect.unit (s := S256x2048) ![0, 0] S256x2048.size inb_S256x2048_S256x2048_0_0).toLoadRect (harg1.unread x0)) (ix2 r k) = x0 (ix2 r k) :=
    fun k => loaded arg1 harg1 x0 inb_S256x2048_S256x2048_0_0 0 0 rfl r k r k (Nat.zero_add _).symm (Nat.zero_add _).symm
  have eg : ∀ k : Fin 2048, (View.readAt (Elt Ideal) arg2.view (Rect.unit (s := S1x2048) ![0, 0] S1x2048.size inb_S1x2048_S1x2048_0_0).toLoadRect (harg2.unread x1)) (ix2 0 k) = x1 (ix2 0 k) :=
    fun k => loaded arg2 harg2 x1 inb_S1x2048_S1x2048_0_0 0 0 rfl 0 k 0 k (Nat.zero_add _).symm (Nat.zero_add _).symm
  unfold blkLin lin
  refine Finset.sum_congr rfl fun k _ => ?_
  rw [pay4_at, hw k, eg k]
  simp only [ex]

/-- The queries' store. -/
theorem q_at (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (x0 : Vec Ideal S256x2048 .f32) (x1 : Vec Ideal S1x2048 .f32) (x2 : Vec Ideal S2048x7680 .bf16) (r : Fin 256) (d : Fin 1024) :
    k0_pay7 (F := Ideal) (k0_pay5 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1)) (View.readAt (Elt Ideal) arg3.view (Rect.unit (s := S2048x7680) ![0, 0] S2048x1024.size inb_S2048x7680_S2048x1024_0_0).toLoadRect (harg3.unread x2))) (k0_pay6 (F := Ideal)) (ix2 r d) = blkLin x0 x1 x2 r ⟨0 + (d : ℕ), by omega⟩ * Ideal.ofBits .f32 0x3E000000#32 := by
  have ex : ∀ k : Fin 2048, (View.readAt (Elt Ideal) arg1.view (Rect.unit (s := S256x2048) ![0, 0] S256x2048.size inb_S256x2048_S256x2048_0_0).toLoadRect (harg1.unread x0)) (ix2 r k) = x0 (ix2 r k) :=
    fun k => loaded arg1 harg1 x0 inb_S256x2048_S256x2048_0_0 0 0 rfl r k r k (Nat.zero_add _).symm (Nat.zero_add _).symm
  have eg : ∀ k : Fin 2048, (View.readAt (Elt Ideal) arg2.view (Rect.unit (s := S1x2048) ![0, 0] S1x2048.size inb_S1x2048_S1x2048_0_0).toLoadRect (harg2.unread x1)) (ix2 0 k) = x1 (ix2 0 k) :=
    fun k => loaded arg2 harg2 x1 inb_S1x2048_S1x2048_0_0 0 0 rfl 0 k 0 k (Nat.zero_add _).symm (Nat.zero_add _).symm
  have ew : ∀ k : Fin 2048, (View.readAt (Elt Ideal) arg3.view (Rect.unit (s := S2048x7680) ![0, 0] S2048x1024.size inb_S2048x7680_S2048x1024_0_0).toLoadRect (harg3.unread x2)) (ix2 k d) = x2 (ix2 k ⟨0 + (d : ℕ), by omega⟩) :=
    fun k => loaded arg3 harg3 x2 inb_S2048x7680_S2048x1024_0_0 0 0 rfl k d k ⟨0 + (d : ℕ), by omega⟩ (Nat.zero_add _).symm rfl
  refine (pay7_at _ r d).trans ?_
  rw [pay5_at]
  simp only [ex, eg, ew]
  rfl

/-- The keys' and values' store. -/
theorem kv_at (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (x0 : Vec Ideal S256x2048 .f32) (x1 : Vec Ideal S1x2048 .f32) (x2 : Vec Ideal S2048x7680 .bf16) (r : Fin 256) (d : Fin 512) :
    k0_pay8 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1024] S2048x512.size inb_S2048x7680_S2048x512_0_1024).toLoadRect (harg3.unread x2)) (ix2 r d) = blkLin x0 x1 x2 r ⟨1024 + (d : ℕ), by omega⟩ := by
  have ew : ∀ k : Fin 2048, (View.readAt (Elt Ideal) arg3.view (Rect.unit (s := S2048x7680) ![0, 1024] S2048x512.size inb_S2048x7680_S2048x512_0_1024).toLoadRect (harg3.unread x2)) (ix2 k d) = x2 (ix2 k ⟨1024 + (d : ℕ), by omega⟩) :=
    fun k => loaded arg3 harg3 x2 inb_S2048x7680_S2048x512_0_1024 0 1024 rfl k d k ⟨1024 + (d : ℕ), by omega⟩ (Nat.zero_add _).symm rfl
  refine (pay8_at _ _ r d).trans ?_
  exact dot_at arg1 harg1 arg2 harg2 arg3 harg3 x0 x1 x2 r _ _ ew

/-- The gates' store. -/
theorem g_at (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (x0 : Vec Ideal S256x2048 .f32) (x1 : Vec Ideal S1x2048 .f32) (x2 : Vec Ideal S2048x7680 .bf16) (x3 : Vec Ideal S1x4096 .f32) (r : Fin 256) (d : Fin 4096) :
    k0_pay10 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 3584] S2048x4096.size inb_S2048x7680_S2048x4096_0_3584).toLoadRect (harg3.unread x2)) (View.readAt (Elt Ideal) arg4.view (Rect.unit (s := S1x4096) ![0, 0] S1x4096.size inb_S1x4096_S1x4096_0_0).toLoadRect (harg4.unread x3)) (ix2 r d) = sigm (blkLin x0 x1 x2 r ⟨3584 + (d : ℕ), by omega⟩ + x3 (ix2 0 d)) := by
  have ew : ∀ k : Fin 2048, (View.readAt (Elt Ideal) arg3.view (Rect.unit (s := S2048x7680) ![0, 3584] S2048x4096.size inb_S2048x7680_S2048x4096_0_3584).toLoadRect (harg3.unread x2)) (ix2 k d) = x2 (ix2 k ⟨3584 + (d : ℕ), by omega⟩) :=
    fun k => loaded arg3 harg3 x2 inb_S2048x7680_S2048x4096_0_3584 0 3584 rfl k d k ⟨3584 + (d : ℕ), by omega⟩ (Nat.zero_add _).symm rfl
  have eb : (View.readAt (Elt Ideal) arg4.view (Rect.unit (s := S1x4096) ![0, 0] S1x4096.size inb_S1x4096_S1x4096_0_0).toLoadRect (harg4.unread x3)) (ix2 0 d) = x3 (ix2 0 d) :=
    loaded arg4 harg4 x3 inb_S1x4096_S1x4096_0_0 0 0 rfl 0 d 0 d (Nat.zero_add _).symm (Nat.zero_add _).symm
  refine (pay10_at _ _ _ r d).trans ?_
  rw [eb]
  exact congrArg (fun z => sigm (z + x3 (ix2 0 d))) (dot_at arg1 harg1 arg2 harg2 arg3 harg3 x0 x1 x2 r _ _ ew)

/-- The last rows' store. -/
theorem t_at (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (x0 : Vec Ideal S256x2048 .f32) (x1 : Vec Ideal S1x2048 .f32) (x2 : Vec Ideal S2048x7680 .bf16) (r : Fin 32) (d : Fin 1024) :
    k0_pay11 (F := Ideal) (k0_pay9 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1536] S2048x1024.size inb_S2048x7680_S2048x1024_0_1536).toLoadRect (harg3.unread x2)) (View.readAt (Elt Ideal) arg3.view (Rect.unit (s := S2048x7680) ![0, 2560] S2048x1024.size inb_S2048x7680_S2048x1024_0_2560).toLoadRect (harg3.unread x2))) (ix2 r d) = blkLin x0 x1 x2 ⟨224 + (r : ℕ), by omega⟩ ⟨1536 + (d : ℕ), by omega⟩ * sigm (blkLin x0 x1 x2 ⟨224 + (r : ℕ), by omega⟩ ⟨2560 + (d : ℕ), by omega⟩) := by
  have ea : ∀ k : Fin 2048, (View.readAt (Elt Ideal) arg3.view (Rect.unit (s := S2048x7680) ![0, 1536] S2048x1024.size inb_S2048x7680_S2048x1024_0_1536).toLoadRect (harg3.unread x2)) (ix2 k d) = x2 (ix2 k ⟨1536 + (d : ℕ), by omega⟩) :=
    fun k => loaded arg3 harg3 x2 inb_S2048x7680_S2048x1024_0_1536 0 1536 rfl k d k ⟨1536 + (d : ℕ), by omega⟩ (Nat.zero_add _).symm rfl
  have eb : ∀ k : Fin 2048, (View.readAt (Elt Ideal) arg3.view (Rect.unit (s := S2048x7680) ![0, 2560] S2048x1024.size inb_S2048x7680_S2048x1024_0_2560).toLoadRect (harg3.unread x2)) (ix2 k d) = x2 (ix2 k ⟨2560 + (d : ℕ), by omega⟩) :=
    fun k => loaded arg3 harg3 x2 inb_S2048x7680_S2048x1024_0_2560 0 2560 rfl k d k ⟨2560 + (d : ℕ), by omega⟩ (Nat.zero_add _).symm rfl
  refine (pay11_at _ r d).trans ((pay9_at _ _ _ _ d).trans ?_)
  exact congrArg₂ (fun z z' => z * sigm z') (dot_at arg1 harg1 arg2 harg2 arg3 harg3 x0 x1 x2 _ _ _ ea)
    (dot_at arg1 harg1 arg2 harg2 arg3 harg3 x0 x1 x2 _ _ _ eb)

set_option maxHeartbeats 4000000 in
/-- The one store into the block of the queries, at the first point of a sequence. -/
theorem qPiece_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1
      = [⟨Rect.unit (s := S256x1024) ![0, 0] S256x1024.size inb_S256x1024_S256x1024_0_0, k0_pay7 (F := Ideal) (k0_pay5 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1)) (View.readAt (Elt Ideal) arg3.view (Rect.unit (s := S2048x7680) ![0, 0] S2048x1024.size inb_S2048x7680_S2048x1024_0_0).toLoadRect (harg3.unread x2))) (k0_pay6 (F := Ideal))⟩] := by
  unfold kernelRun0_A
  sl_kernel_rfl

/-- What a point leaves in the block of the queries, at the first point of a sequence. -/
theorem qOut_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (r : Fin 256) (d : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r d) = blkLin x0 x1 x2 r ⟨0 + (d : ℕ), by omega⟩ * Ideal.ofBits .f32 0x3E000000#32 := by
  unfold out0_A_8
  rw [qPiece_A]
  refine (View.read_writes_cons_rows_of_mem (d := ![256, 1024]) VO0_8 _ inb_S256x1024_S256x1024_0_0 _ _ (ix2 r d) (ix2 r d) (o := 0) rfl (Nat.zero_add _).symm rfl).trans ?_
  exact q_at arg1 harg1 arg2 harg2 arg3 harg3 x0 x1 x2 r d

set_option maxHeartbeats 4000000 in
/-- The one store into the block of the keys and values, at the first point of a sequence. -/
theorem kvPiece_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1
      = [⟨Rect.unit (s := S256x512) ![0, 0] S256x512.size inb_S256x512_S256x512_0_0, k0_pay8 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1024] S2048x512.size inb_S2048x7680_S2048x512_0_1024).toLoadRect (harg3.unread x2))⟩] := by
  unfold kernelRun0_A
  sl_kernel_rfl

/-- What a point leaves in the block of the keys and values, at the first point of a sequence. -/
theorem kvOut_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (r : Fin 256) (d : Fin 512) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r d) = blkLin x0 x1 x2 r ⟨1024 + (d : ℕ), by omega⟩ := by
  unfold out0_A_9
  rw [kvPiece_A]
  refine (View.read_writes_cons_rows_of_mem (d := ![256, 512]) VO0_9 _ inb_S256x512_S256x512_0_0 _ _ (ix2 r d) (ix2 r d) (o := 0) rfl (Nat.zero_add _).symm rfl).trans ?_
  exact kv_at arg1 harg1 arg2 harg2 arg3 harg3 x0 x1 x2 r d

set_option maxHeartbeats 4000000 in
/-- The one store into the block of the gates, at the first point of a sequence. -/
theorem gPiece_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1
      = [⟨Rect.unit (s := S256x4096) ![0, 0] S256x4096.size inb_S256x4096_S256x4096_0_0, k0_pay10 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 3584] S2048x4096.size inb_S2048x7680_S2048x4096_0_3584).toLoadRect (harg3.unread x2)) (View.readAt (Elt Ideal) arg4.view (Rect.unit (s := S1x4096) ![0, 0] S1x4096.size inb_S1x4096_S1x4096_0_0).toLoadRect (harg4.unread x3))⟩] := by
  unfold kernelRun0_A
  sl_kernel_rfl

/-- What a point leaves in the block of the gates, at the first point of a sequence. -/
theorem gOut_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (r : Fin 256) (d : Fin 4096) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r d) = sigm (blkLin x0 x1 x2 r ⟨3584 + (d : ℕ), by omega⟩ + x3 (ix2 0 d)) := by
  unfold out0_A_10
  rw [gPiece_A]
  refine (View.read_writes_cons_rows_of_mem (d := ![256, 4096]) VO0_10 _ inb_S256x4096_S256x4096_0_0 _ _ (ix2 r d) (ix2 r d) (o := 0) rfl (Nat.zero_add _).symm rfl).trans ?_
  exact g_at arg1 harg1 arg2 harg2 arg3 harg3 arg4 harg4 x0 x1 x2 x3 r d

set_option maxHeartbeats 4000000 in
/-- The one store into the block of the last rows, at the first point of a sequence. -/
theorem tPiece_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1
      = [⟨Rect.unit (s := S32x1024) ![0, 0] S32x1024.size inb_S32x1024_S32x1024_0_0, k0_pay11 (F := Ideal) (k0_pay9 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1536] S2048x1024.size inb_S2048x7680_S2048x1024_0_1536).toLoadRect (harg3.unread x2)) (View.readAt (Elt Ideal) arg3.view (Rect.unit (s := S2048x7680) ![0, 2560] S2048x1024.size inb_S2048x7680_S2048x1024_0_2560).toLoadRect (harg3.unread x2)))⟩] := by
  unfold kernelRun0_A
  sl_kernel_rfl

/-- What a point leaves in the block of the last rows, at the first point of a sequence. -/
theorem tOut_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : cond0_0 i) (hc1 : ¬cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (r : Fin 32) (d : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r d) = blkLin x0 x1 x2 ⟨224 + (r : ℕ), by omega⟩ ⟨1536 + (d : ℕ), by omega⟩ * sigm (blkLin x0 x1 x2 ⟨224 + (r : ℕ), by omega⟩ ⟨2560 + (d : ℕ), by omega⟩) := by
  unfold out0_A_12
  rw [tPiece_A]
  refine (View.read_writes_cons_rows_of_mem (d := ![32, 1024]) VO0_12 _ inb_S32x1024_S32x1024_0_0 _ _ (ix2 r d) (ix2 r d) (o := 0) rfl (Nat.zero_add _).symm rfl).trans ?_
  exact t_at arg1 harg1 arg2 harg2 arg3 harg3 x0 x1 x2 r d

set_option maxHeartbeats 4000000 in
/-- The one store into the block of the queries, at a later point of a sequence. -/
theorem qPiece_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0).1
      = [⟨Rect.unit (s := S256x1024) ![0, 0] S256x1024.size inb_S256x1024_S256x1024_0_0, k0_pay7 (F := Ideal) (k0_pay5 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1)) (View.readAt (Elt Ideal) arg3.view (Rect.unit (s := S2048x7680) ![0, 0] S2048x1024.size inb_S2048x7680_S2048x1024_0_0).toLoadRect (harg3.unread x2))) (k0_pay6 (F := Ideal))⟩] := by
  unfold kernelRun0_B
  sl_kernel_rfl

/-- What a point leaves in the block of the queries, at a later point of a sequence. -/
theorem qOut_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) (r : Fin 256) (d : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 (ix2 r d) = blkLin x0 x1 x2 r ⟨0 + (d : ℕ), by omega⟩ * Ideal.ofBits .f32 0x3E000000#32 := by
  unfold out0_B_8
  rw [qPiece_B]
  refine (View.read_writes_cons_rows_of_mem (d := ![256, 1024]) VO0_8 _ inb_S256x1024_S256x1024_0_0 _ _ (ix2 r d) (ix2 r d) (o := 0) rfl (Nat.zero_add _).symm rfl).trans ?_
  exact q_at arg1 harg1 arg2 harg2 arg3 harg3 x0 x1 x2 r d

set_option maxHeartbeats 4000000 in
/-- The one store into the block of the keys and values, at a later point of a sequence. -/
theorem kvPiece_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0).2.1
      = [⟨Rect.unit (s := S256x512) ![0, 0] S256x512.size inb_S256x512_S256x512_0_0, k0_pay8 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1024] S2048x512.size inb_S2048x7680_S2048x512_0_1024).toLoadRect (harg3.unread x2))⟩] := by
  unfold kernelRun0_B
  sl_kernel_rfl

/-- What a point leaves in the block of the keys and values, at a later point of a sequence. -/
theorem kvOut_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) (r : Fin 256) (d : Fin 512) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 (ix2 r d) = blkLin x0 x1 x2 r ⟨1024 + (d : ℕ), by omega⟩ := by
  unfold out0_B_9
  rw [kvPiece_B]
  refine (View.read_writes_cons_rows_of_mem (d := ![256, 512]) VO0_9 _ inb_S256x512_S256x512_0_0 _ _ (ix2 r d) (ix2 r d) (o := 0) rfl (Nat.zero_add _).symm rfl).trans ?_
  exact kv_at arg1 harg1 arg2 harg2 arg3 harg3 x0 x1 x2 r d

set_option maxHeartbeats 4000000 in
/-- The one store into the block of the gates, at a later point of a sequence. -/
theorem gPiece_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0).2.2.1
      = [⟨Rect.unit (s := S256x4096) ![0, 0] S256x4096.size inb_S256x4096_S256x4096_0_0, k0_pay10 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 3584] S2048x4096.size inb_S2048x7680_S2048x4096_0_3584).toLoadRect (harg3.unread x2)) (View.readAt (Elt Ideal) arg4.view (Rect.unit (s := S1x4096) ![0, 0] S1x4096.size inb_S1x4096_S1x4096_0_0).toLoadRect (harg4.unread x3))⟩] := by
  unfold kernelRun0_B
  sl_kernel_rfl

/-- What a point leaves in the block of the gates, at a later point of a sequence. -/
theorem gOut_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) (r : Fin 256) (d : Fin 4096) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 (ix2 r d) = sigm (blkLin x0 x1 x2 r ⟨3584 + (d : ℕ), by omega⟩ + x3 (ix2 0 d)) := by
  unfold out0_B_10
  rw [gPiece_B]
  refine (View.read_writes_cons_rows_of_mem (d := ![256, 4096]) VO0_10 _ inb_S256x4096_S256x4096_0_0 _ _ (ix2 r d) (ix2 r d) (o := 0) rfl (Nat.zero_add _).symm rfl).trans ?_
  exact g_at arg1 harg1 arg2 harg2 arg3 harg3 arg4 harg4 x0 x1 x2 x3 r d

set_option maxHeartbeats 4000000 in
/-- The one store into the block of the last rows, at a later point of a sequence. -/
theorem tPiece_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0).2.2.2.2.1
      = [⟨Rect.unit (s := S32x1024) ![0, 0] S32x1024.size inb_S32x1024_S32x1024_0_0, k0_pay11 (F := Ideal) (k0_pay9 (F := Ideal) (k0_pay4 (F := Ideal) (View.readAt (Elt Ideal) arg1.view (Rect.unit (s := S256x2048) ![0, 0] S256x2048.size inb_S256x2048_S256x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg3.view (Rect.unit (s := S2048x7680) ![0, 1536] S2048x1024.size inb_S2048x7680_S2048x1024_0_1536).toLoadRect (harg3.unread x2)) (View.readAt (Elt Ideal) arg3.view (Rect.unit (s := S2048x7680) ![0, 2560] S2048x1024.size inb_S2048x7680_S2048x1024_0_2560).toLoadRect (harg3.unread x2)))⟩] := by
  unfold kernelRun0_B
  sl_kernel_rfl

/-- What a point leaves in the block of the last rows, at a later point of a sequence. -/
theorem tOut_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x7680 .bf16) (harg3 : arg3.IsWhole) (arg4 : Memref sig .tc .vmem S1x4096 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S32x1024 .f32) (harg13 : arg13.IsWhole) (arg14 : Memref sig .tc .vmem S8x288x128 .f32) (harg14 : arg14.IsWhole) (arg15 : Memref sig .tc .vmem S256x1024 .f32) (harg15 : arg15.IsWhole) (hc0 : ¬cond0_0 i) (hc1 : cond0_1 i) (x0 : Vec Ideal S256x2048 .f32) (x1 : Vec Ideal S1x2048 .f32) (x2 : Vec Ideal S2048x7680 .bf16) (x3 : Vec Ideal S1x4096 .f32) (x4 : Vec Ideal S31x1024 .f32) (x5 : Vec Ideal S1x1024 .f32) (x6 : Vec Ideal S1x1024 .f32) (x7 : Vec Ideal S1x1024 .f32) (xs0 : Vec Ideal S8x288x128 .f32) (r : Fin 32) (d : Fin 1024) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 (ix2 r d) = blkLin x0 x1 x2 ⟨224 + (r : ℕ), by omega⟩ ⟨1536 + (d : ℕ), by omega⟩ * sigm (blkLin x0 x1 x2 ⟨224 + (r : ℕ), by omega⟩ ⟨2560 + (d : ℕ), by omega⟩) := by
  unfold out0_B_12
  rw [tPiece_B]
  refine (View.read_writes_cons_rows_of_mem (d := ![32, 1024]) VO0_12 _ inb_S32x1024_S32x1024_0_0 _ _ (ix2 r d) (ix2 r d) (o := 0) rfl (Nat.zero_add _).symm rfl).trans ?_
  exact t_at arg1 harg1 arg2 harg2 arg3 harg3 x0 x1 x2 r d

variable (m : (ℓ : Loc nD τ Cert.ProjIdeal.sig) → Buf (Elt Ideal) ℓ)

/-- What any point leaves in the block of the queries. -/
theorem qBlock (c : Dev nD) (t : Fin cfg0.N) (r : Fin 256) (d : Fin 1024) :
    (outsAt0 m c t.val t.isLt).1 (ix2 r d) = blkLin (iblk m c 0 t) (iblk m c 1 t) (iblk m c 2 t) r ⟨0 + (d : ℕ), by omega⟩ * Ideal.ofBits .f32 0x3E000000#32 := by
  by_cases h : t.val % 32 = 0
  · rw [outsAt0_A m c t h (not_not.mpr h)]
    dsimp only
    exact qOut_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (fun h' => not_not.mpr h ((hcond0_1 t).mp h')) (iblk m c 0 t) (iblk m c 1 t) (iblk m c 2 t) (iblk m c 3 t) (iblk m c 4 t) (iblk m c 5 t) (iblk m c 6 t) (iblk m c 7 t) r d
  · rw [outsAt0_B m c t h h]
    dsimp only
    exact qOut_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 r d

/-- What any point leaves in the block of the keys and values. -/
theorem kvBlock (c : Dev nD) (t : Fin cfg0.N) (r : Fin 256) (d : Fin 512) :
    (outsAt0 m c t.val t.isLt).2.1 (ix2 r d) = blkLin (iblk m c 0 t) (iblk m c 1 t) (iblk m c 2 t) r ⟨1024 + (d : ℕ), by omega⟩ := by
  by_cases h : t.val % 32 = 0
  · rw [outsAt0_A m c t h (not_not.mpr h)]
    dsimp only
    exact kvOut_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (fun h' => not_not.mpr h ((hcond0_1 t).mp h')) (iblk m c 0 t) (iblk m c 1 t) (iblk m c 2 t) (iblk m c 3 t) (iblk m c 4 t) (iblk m c 5 t) (iblk m c 6 t) (iblk m c 7 t) r d
  · rw [outsAt0_B m c t h h]
    dsimp only
    exact kvOut_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 r d

/-- What any point leaves in the block of the gates. -/
theorem gBlock (c : Dev nD) (t : Fin cfg0.N) (r : Fin 256) (d : Fin 4096) :
    (outsAt0 m c t.val t.isLt).2.2.1 (ix2 r d) = sigm (blkLin (iblk m c 0 t) (iblk m c 1 t) (iblk m c 2 t) r ⟨3584 + (d : ℕ), by omega⟩ + (show FVec Ideal S1x4096 .f32 from iblk m c 3 t) (ix2 0 d)) := by
  by_cases h : t.val % 32 = 0
  · rw [outsAt0_A m c t h (not_not.mpr h)]
    dsimp only
    exact gOut_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (fun h' => not_not.mpr h ((hcond0_1 t).mp h')) (iblk m c 0 t) (iblk m c 1 t) (iblk m c 2 t) (iblk m c 3 t) (iblk m c 4 t) (iblk m c 5 t) (iblk m c 6 t) (iblk m c 7 t) r d
  · rw [outsAt0_B m c t h h]
    dsimp only
    exact gOut_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 r d

/-- What any point leaves in the block of the last rows. -/
theorem tBlock (c : Dev nD) (t : Fin cfg0.N) (r : Fin 32) (d : Fin 1024) :
    (outsAt0 m c t.val t.isLt).2.2.2.2.1 (ix2 r d) = blkLin (iblk m c 0 t) (iblk m c 1 t) (iblk m c 2 t) ⟨224 + (r : ℕ), by omega⟩ ⟨1536 + (d : ℕ), by omega⟩ * sigm (blkLin (iblk m c 0 t) (iblk m c 1 t) (iblk m c 2 t) ⟨224 + (r : ℕ), by omega⟩ ⟨2560 + (d : ℕ), by omega⟩) := by
  by_cases h : t.val % 32 = 0
  · rw [outsAt0_A m c t h (not_not.mpr h)]
    dsimp only
    exact tOut_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (fun h' => not_not.mpr h ((hcond0_1 t).mp h')) (iblk m c 0 t) (iblk m c 1 t) (iblk m c 2 t) (iblk m c 3 t) (iblk m c 4 t) (iblk m c 5 t) (iblk m c 6 t) (iblk m c 7 t) r d
  · rw [outsAt0_B m c t h h]
    dsimp only
    exact tOut_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2 r d

end Cert.ProjIdeal.Own

end
-- ==== Proof.ProjRef.lean ====
/-
  The projection call's reference: the problem's lines read at an index.
-/
module

public import proofs.«01_k».proof.Defs
public import proofs.«01_k».proof.Proof.Gen.ProjRefIdeal.Read
public import proofs.«01_k».proof.Proof.ProjRow
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ProjRefIdeal.Own

open Cert.ProjRefIdeal Cert.ProjRefIdeal.Read
open Cert.ProjIdeal.Own (lin sigm)
open Cert.MixIdeal.Own (rmsFactor)

/-- The combined projection at row `r`, column `c`. -/
def linAt (x : FVec Ideal S16384x2048 .f32) (g : FVec Ideal S2048 .f32) (w : FVec Ideal S2048x7680 .f32) (r : Fin 16384) (c : Fin 7680) : EReal :=
  lin (fun k => x (ix2 r k)) (fun k => g (ix1 k)) (fun k => w (ix2 k c))

/-- The scaled queries, as an array. -/
def qArr (x : FVec Ideal S16384x2048 .f32) (g : FVec Ideal S2048 .f32) (w : FVec Ideal S2048x7680 .f32) : FVec Ideal S16384x1024 .bf16 :=
  fun i => linAt x g w (i 0) ⟨(i 1).val, by have h : (i 1).val < 1024 := (i 1).isLt; omega⟩ * Ideal.ofBits .f32 0x3E000000#32

/-- The keys and values, as an array. -/
def kvArr (x : FVec Ideal S16384x2048 .f32) (g : FVec Ideal S2048 .f32) (w : FVec Ideal S2048x7680 .f32) : FVec Ideal S16384x512 .f32 :=
  fun i => linAt x g w (i 0) ⟨1024 + (i 1).val, by have h : (i 1).val < 512 := (i 1).isLt; omega⟩

/-- The gated linear unit at row `r`, column `c`. -/
def uAt (x : FVec Ideal S16384x2048 .f32) (g : FVec Ideal S2048 .f32) (w : FVec Ideal S2048x7680 .f32) (r : Fin 16384) (c : Fin 1024) : EReal :=
  linAt x g w r ⟨1536 + (c : ℕ), by omega⟩ * sigm (linAt x g w r ⟨2560 + (c : ℕ), by omega⟩)

/-- The gates, as an array. -/
def gArr (x : FVec Ideal S16384x2048 .f32) (g : FVec Ideal S2048 .f32) (w : FVec Ideal S2048x7680 .f32) (b : FVec Ideal S4096 .f32) : FVec Ideal S16384x4096 .bf16 :=
  fun i => sigm (linAt x g w (i 0) ⟨3584 + (i 1).val, by have h : (i 1).val < 4096 := (i 1).isLt; omega⟩ + b (ix1 (i 1)))

/-- The last 32 rows of every 256 of the gated linear unit, as an array. -/
def tArr (x : FVec Ideal S16384x2048 .f32) (g : FVec Ideal S2048 .f32) (w : FVec Ideal S2048x7680 .f32) : FVec Ideal S2048x1024 .f32 :=
  fun i => uAt x g w ⟨(i 0).val / 32 * 256 + (224 + (i 0).val % 32), by have h : (i 0).val < 2048 := (i 0).isLt; omega⟩ (i 1)

/-- The combined projection. -/
theorem p_at (x0 : FVec Ideal S16384x2048 .f32) (x1 : FVec Ideal S2048 .f32) (x2 : FVec Ideal S2048x7680 .f32) (r : Fin 16384) (c : Fin 7680) :
    val_main_v13 (F := Ideal) x0 x1 x2 (ix2 r c) = linAt x0 x1 x2 r c := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    linAt, lin, rmsFactor]

/-- The queries of the problem's lines. -/
theorem q_arr (x0 : FVec Ideal S16384x2048 .f32) (x1 : FVec Ideal S2048 .f32) (x2 : FVec Ideal S2048x7680 .f32) :
    val_main_v41 (F := Ideal) x0 x1 x2 = qArr x0 x1 x2 := by
  funext i
  obtain ⟨r, d, rfl⟩ : ∃ (r : Fin 16384) (d : Fin 1024), i = ix2 r d := ⟨i 0, i 1, eq_ix2 i⟩
  have e : val_main_v41 (F := Ideal) x0 x1 x2 (ix2 r d)
      = val_main_v13 (F := Ideal) x0 x1 x2 (ix2 r ⟨(d : ℕ), by omega⟩) * Ideal.ofBits .f32 0x3E000000#32 := by
    pointwise [val_main_v41, val_main_v40, val_main_v39, val_main_cst_6, val_main_v14]
  rw [e, p_at]
  rfl

/-- The keys and values of the problem's lines. -/
theorem kv_arr (x0 : FVec Ideal S16384x2048 .f32) (x1 : FVec Ideal S2048 .f32) (x2 : FVec Ideal S2048x7680 .f32) :
    val_main_v15 (F := Ideal) x0 x1 x2 = kvArr x0 x1 x2 := by
  funext i
  obtain ⟨r, d, rfl⟩ : ∃ (r : Fin 16384) (d : Fin 512), i = ix2 r d := ⟨i 0, i 1, eq_ix2 i⟩
  have e : val_main_v15 (F := Ideal) x0 x1 x2 (ix2 r d)
      = val_main_v13 (F := Ideal) x0 x1 x2 (ix2 r ⟨1024 + (d : ℕ), by omega⟩) := by
    pointwise [val_main_v15]
  rw [e, p_at]
  rfl

/-- The gates of the problem's lines. -/
theorem g_arr (x0 : FVec Ideal S16384x2048 .f32) (x1 : FVec Ideal S2048 .f32) (x2 : FVec Ideal S2048x7680 .f32) (x3 : FVec Ideal S4096 .f32) :
    val_main_v42 (F := Ideal) x0 x1 x2 x3 = gArr x0 x1 x2 x3 := by
  funext i
  obtain ⟨r, d, rfl⟩ : ∃ (r : Fin 16384) (d : Fin 4096), i = ix2 r d := ⟨i 0, i 1, eq_ix2 i⟩
  have e : val_main_v42 (F := Ideal) x0 x1 x2 x3 (ix2 r d)
      = sigm (val_main_v13 (F := Ideal) x0 x1 x2 (ix2 r ⟨3584 + (d : ℕ), by omega⟩) + x3 (ix1 d)) := by
    pointwise [val_main_v42, val_main_v35, val_main_v34, val_main_v33, val_main_v32, val_main_v31, val_main_v30, val_main_v29,
      val_main_v28, val_main_v27, val_main_v17, val_main_cst_4, val_main_cst_5, sigm]
  rw [e, p_at]
  rfl

/-- The gated linear unit of the problem's lines. -/
theorem u_at (x0 : FVec Ideal S16384x2048 .f32) (x1 : FVec Ideal S2048 .f32) (x2 : FVec Ideal S2048x7680 .f32) (r : Fin 16384) (d : Fin 1024) :
    val_main_v26 (F := Ideal) x0 x1 x2 (ix2 r d) = uAt x0 x1 x2 r d := by
  have e : val_main_v26 (F := Ideal) x0 x1 x2 (ix2 r d)
      = val_main_v13 (F := Ideal) x0 x1 x2 (ix2 r ⟨1536 + (d : ℕ), by omega⟩)
        * sigm (val_main_v13 (F := Ideal) x0 x1 x2 (ix2 r ⟨2560 + (d : ℕ), by omega⟩)) := by
    pointwise [val_main_v26, val_main_v25, val_main_v24, val_main_v23, val_main_v22, val_main_v21, val_main_v20, val_main_v19,
      val_main_v18, val_main_v16, val_main_cst_2, val_main_cst_3, sigm]
    have c2 : (⟨1536 + (1024 + (d : ℕ)), by omega⟩ : Fin 7680) = ⟨2560 + (d : ℕ), by omega⟩ := Fin.ext (by dsimp only; omega)
    rw [c2]
  rw [e, p_at, p_at]
  rfl

/-- The last rows of the problem's lines. -/
theorem t_arr (x0 : FVec Ideal S16384x2048 .f32) (x1 : FVec Ideal S2048 .f32) (x2 : FVec Ideal S2048x7680 .f32) :
    val_main_v38 (F := Ideal) x0 x1 x2 = tArr x0 x1 x2 := by
  funext i
  obtain ⟨r, d, rfl⟩ : ∃ (r : Fin 2048) (d : Fin 1024), i = ix2 r d := ⟨i 0, i 1, eq_ix2 i⟩
  have e : val_main_v38 (F := Ideal) x0 x1 x2 (ix2 r d)
      = val_main_v26 (F := Ideal) x0 x1 x2 (ix2 ⟨(r : ℕ) / 32 * 256 + (224 + (r : ℕ) % 32), by omega⟩ d) := by
    pointwise [val_main_v38, val_main_v37, val_main_v36]
  rw [e, u_at]
  rfl

end Cert.ProjRefIdeal.Own

namespace Cert.Own

/-- The reference of the projection call leaves its arguments as they were. -/
theorem proj_ref_frame : Cert.quiescent_ProjRefIdeal := by
  exact fun m g _ => (θ_run _ _ _).mono (fun r h => ⟨fun c => (h c).2.2.2.2, sem_eq_zero_of_no_sems (by rfl) r.2⟩)
    (Cert.ProjRefIdeal.Value.run m g)

end Cert.Own

end
-- ==== Proof.ProjValue.lean ====
/-
  The projection call: the arrays the kernel leaves are those the problem's lines compute.
-/
module

public import proofs.«01_k».proof.Proof.ProjBlock
public import proofs.«01_k».proof.Proof.ProjRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Own

open Cert.ProjIdeal Cert.ProjIdeal.Gen
open Cert.ProjRefIdeal.Own (linAt uAt qArr kvArr gArr tArr)

/-- The index maps: point `t` works on rows `256 t …`, and on the whole of the weights. -/
theorem idx : ∀ t : Fin cfg0.N, win0_0.index t = ![t.val, 0] ∧ win0_1.index t = ![0, 0] ∧ win0_2.index t = ![0, 0]
    ∧ win0_3.index t = ![0, 0] ∧ win0_8.index t = ![t.val, 0] ∧ win0_9.index t = ![t.val, 0]
    ∧ win0_10.index t = ![t.val, 0] ∧ win0_12.index t = ![t.val, 0] :=
  (by decide +kernel : ∀ t : Fin grid0.N, _)

variable (m : (ℓ : Loc nD τ Cert.ProjIdeal.sig) → Buf (Elt Ideal) ℓ)

/-- A block of the rows as a point loads it. -/
theorem rows_eq (c : Dev nD) (t : Fin cfg0.N) (r : Fin 256) (k : Fin 2048) :
    (show FVec Ideal S256x2048 .f32 from iblk m c 0 t) (ix2 r k) = (show FVec Ideal S16384x2048 .f32 from m ((c : Thread nD τ).loc main_arg0))
      (ix2 ⟨t.val * 256 + (r : ℕ), by have := lt_of_lt_of_eq t.isLt N_0; omega⟩ k) := by
  blk_point [iblk, V, idx t]

/-- The norm's gain as a point loads it. -/
theorem gain_eq (c : Dev nD) (t : Fin cfg0.N) (k : Fin 2048) :
    (show FVec Ideal S1x2048 .f32 from iblk m c 1 t) (ix2 0 k) = (show FVec Ideal S2048 .f32 from m ((c : Thread nD τ).loc main_arg1)) (ix1 k) := by
  blk_point [iblk, V, idx t]

/-- The combined weights as a point loads them. -/
theorem wts_eq (c : Dev nD) (t : Fin cfg0.N) (k : Fin 2048) (d : Fin 7680) :
    (show FVec Ideal S2048x7680 .bf16 from iblk m c 2 t) (ix2 k d) = (show FVec Ideal S2048x7680 .f32 from m ((c : Thread nD τ).loc main_arg2)) (ix2 k d) := by
  blk_point [iblk, V, idx t]

/-- The combined projection of a block's row is that of the array's row. -/
theorem blkLin_eq (c : Dev nD) (t : Fin cfg0.N) (r : Fin 256) (k : Fin 7680) :
    blkLin (iblk m c 0 t) (iblk m c 1 t) (iblk m c 2 t) r k
      = linAt (m ((c : Thread nD τ).loc main_arg0)) (m ((c : Thread nD τ).loc main_arg1)) (m ((c : Thread nD τ).loc main_arg2))
          ⟨t.val * 256 + (r : ℕ), by have := lt_of_lt_of_eq t.isLt N_0; omega⟩ k := by
  unfold blkLin linAt
  exact congr (congrArg₂ lin (funext fun k' => rows_eq m c t r k') (funext fun k' => gain_eq m c t k')) (funext fun k' => wts_eq m c t k' k)

/-- The gates' offset as a point loads it. -/
theorem bias_eq (c : Dev nD) (t : Fin cfg0.N) (d : Fin 4096) :
    (show FVec Ideal S1x4096 .f32 from iblk m c 3 t) (ix2 0 d) = (show FVec Ideal S4096 .f32 from m ((c : Thread nD τ).loc main_arg3)) (ix1 d) := by
  blk_point [iblk, V, idx t]

/-- The queries' array. -/
theorem final8 (c : Dev nD) : (dats m 0 c).arrAt 8 cfg0.N
    = qArr (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  obtain ⟨r, d, rfl⟩ : ∃ (r : Fin 256) (d : Fin 1024), y = ix2 r d := ⟨y 0, y 1, eq_ix2 y⟩
  refine (qBlock m c t r d).trans ?_
  rw [blkLin_eq]
  unfold qArr
  refine congrArg₂ (fun a b => linAt _ _ _ a b * _) (Fin.ext ?_) (Fin.ext ?_) <;> blk_simp [idx t]

/-- The array of the keys and values. -/
theorem final9 (c : Dev nD) : (dats m 0 c).arrAt 9 cfg0.N
    = kvArr (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  obtain ⟨r, d, rfl⟩ : ∃ (r : Fin 256) (d : Fin 512), y = ix2 r d := ⟨y 0, y 1, eq_ix2 y⟩
  refine (kvBlock m c t r d).trans ?_
  rw [blkLin_eq]
  unfold kvArr
  refine congrArg₂ (fun a b => linAt _ _ _ a b) (Fin.ext ?_) (Fin.ext ?_) <;> blk_simp [idx t]

/-- The gates' array. -/
theorem final10 (c : Dev nD) : (dats m 0 c).arrAt 10 cfg0.N
    = gArr (m ((c : Thread nD τ).loc main_arg0)) (m ((c : Thread nD τ).loc main_arg1)) (m ((c : Thread nD τ).loc main_arg2))
        (m ((c : Thread nD τ).loc main_arg3)) := by
  refine (dats m 0 c).arrAt_eq_of_covers 10 _ (by decide +kernel) fun t hf y => ?_
  blk_simp
  rw [after0_10]
  obtain ⟨r, d, rfl⟩ : ∃ (r : Fin 256) (d : Fin 4096), y = ix2 r d := ⟨y 0, y 1, eq_ix2 y⟩
  refine (gBlock m c t r d).trans ?_
  rw [blkLin_eq]
  have e0 : ((win0_10.blk t).view.emb (ix2 r d)) 0 = (⟨t.val * 256 + (r : ℕ), by have := lt_of_lt_of_eq t.isLt N_0; omega⟩ : Fin 16384) := by
    apply Fin.ext; blk_simp [idx t]
  have e1 : ((win0_10.blk t).view.emb (ix2 r d)) 1 = d := by
    apply Fin.ext; blk_simp [idx t]
  unfold gArr
  refine congrArg sigm (congrArg₂ (fun a b : EReal => a + b) (congrArg₂ (fun a b => linAt _ _ _ a b) e0.symm (Fin.ext ?_)) ((bias_eq m c t d).trans ?_))
  · exact congrArg (fun z : Fin 4096 => 3584 + (z : ℕ)) e1.symm
  · exact congrArg (fun z : Fin 4096 => (show FVec Ideal S4096 .f32 from m ((c : Thread nD τ).loc main_arg3)) (ix1 z)) e1.symm

/-- The array of the last rows. -/
theorem final12 (c : Dev nD) : (dats m 0 c).arrAt 12 cfg0.N
    = tArr (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  obtain ⟨r, d, rfl⟩ : ∃ (r : Fin 32) (d : Fin 1024), y = ix2 r d := ⟨y 0, y 1, eq_ix2 y⟩
  refine (tBlock m c t r d).trans ?_
  rw [blkLin_eq, blkLin_eq]
  unfold tArr uAt
  have ht : t.val < 64 := lt_of_lt_of_eq t.isLt N_0
  have e0 : (((win0_12.blk t).view.emb (ix2 r d)) 0).val = t.val * 32 + (r : ℕ) := by
    blk_simp [idx t]
  have e1 : ((win0_12.blk t).view.emb (ix2 r d)) 1 = d := by
    apply Fin.ext; blk_simp [idx t]
  have e2 : (⟨(((win0_12.blk t).view.emb (ix2 r d)) 0).val / 32 * 256 + (224 + (((win0_12.blk t).view.emb (ix2 r d)) 0).val % 32), by rw [e0]; omega⟩ : Fin 16384)
      = ⟨t.val * 256 + (224 + (r : ℕ)), by omega⟩ := by
    apply Fin.ext; show _ / 32 * 256 + (224 + _ % 32) = _; rw [e0]; dsimp only; omega
  rw [e1]
  exact (congrArg (fun a => linAt _ _ _ a _ * sigm (linAt _ _ _ a _)) e2.symm)

end Cert.ProjIdeal.Own

namespace Cert.Own

/-- Over the reals, the projection call leaves in its results what the problem's lines compute. -/
theorem proj_algebraic : Cert.algebraic_ProjIdeal_ProjRefIdeal := by
  intro m g m' g' hpre hagree
  refine ⟨fun c => (Cert.ProjIdeal.Gen.dats m 0 c).arrAt 8 Cert.ProjIdeal.cfg0.N, fun c => (Cert.ProjIdeal.Gen.dats m 0 c).arrAt 9 Cert.ProjIdeal.cfg0.N,
    fun c => (Cert.ProjIdeal.Gen.dats m 0 c).arrAt 10 Cert.ProjIdeal.cfg0.N, fun c => (Cert.ProjIdeal.Gen.dats m 0 c).arrAt 12 Cert.ProjIdeal.cfg0.N, ?_, ?_⟩
  · refine (θ_run _ _ _).mono (fun r h c => ?_) (Cert.ProjIdeal.Value.run_blocks m g)
    obtain ⟨h0, h1, h2, -, h4, h5⟩ := h c
    exact ⟨h0, h1, h2, h4, h5⟩
  · run_from Cert.ProjRefIdeal.Value.run m' g'
    · exact (Cert.ProjRefIdeal.Read.val_main_v41_eq (F := Ideal) _ _ _).trans
        ((Cert.ProjRefIdeal.Own.q_arr _ _ _).trans (Cert.ProjIdeal.Own.final8 m c).symm)
    · exact (Cert.ProjRefIdeal.Read.val_main_v15_eq (F := Ideal) _ _ _).trans
        ((Cert.ProjRefIdeal.Own.kv_arr _ _ _).trans (Cert.ProjIdeal.Own.final9 m c).symm)
    · exact (Cert.ProjRefIdeal.Read.val_main_v42_eq (F := Ideal) _ _ _ _).trans
        ((Cert.ProjRefIdeal.Own.g_arr _ _ _ _).trans (Cert.ProjIdeal.Own.final10 m c).symm)
    · exact (Cert.ProjRefIdeal.Read.val_main_v38_eq (F := Ideal) _ _ _).trans
        ((Cert.ProjRefIdeal.Own.t_arr _ _ _).trans (Cert.ProjIdeal.Own.final12 m c).symm)

end Cert.Own

end
-- ==== Proof.lean ====
/-
  The proof of the claim: every call's kernel runs to its end, leaves its arguments as they were and its semaphores
  at zero, and over the reals computes what the problem's own lines compute.
-/
module

public import proofs.«01_k».proof.Defs
public import proofs.«01_k».proof.Proof.Gen.Attn.Frame
public import proofs.«01_k».proof.Proof.Gen.AttnIdeal.Frame
public import proofs.«01_k».proof.Proof.Gen.AttnRefIdeal
public import proofs.«01_k».proof.Proof.Gen.Mlp.Frame
public import proofs.«01_k».proof.Proof.Gen.MlpIdeal.Frame
public import proofs.«01_k».proof.Proof.Gen.MlpRefIdeal
public import proofs.«01_k».proof.Proof.Gen.Mix.Frame
public import proofs.«01_k».proof.Proof.Gen.MixIdeal.Frame
public import proofs.«01_k».proof.Proof.Gen.MixRefIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Read
public import proofs.«01_k».proof.Proof.AttnValue
public import proofs.«01_k».proof.Proof.MlpValue
public import proofs.«01_k».proof.Proof.MixValue
public import proofs.«01_k».proof.Proof.ProjValue
public import Idealize.ShloMosaic.Adequacy
public import Idealize.ShloMosaic.Init

@[expose] public section

noncomputable section

namespace Cert.Proof

open Idealize.ShloMosaic Idealize.SL.Sem

/-- The shape relations of the precondition. -/
theorem pre_facts : Cert.Pre_finite.Facts := by
  constructor <;> decide

/-- The attention's reference runs to its end with finite arguments as with any. -/
theorem attn_ref_frame_finite [Cert.Pre_finite.Facts] : Cert.quiescent_AttnRefIdeal_pre_finite :=
  fun m g _ => Cert.Own.attn_ref_frame m g trivial

/-- The claim: the frames, the idealizations and the values of the certified calls. -/
theorem claim : Cert.Claim :=
  ⟨Cert.Attn.Gen.facts, Cert.AttnIdeal.Gen.facts, Cert.AttnRefIdeal.Gen.facts,
   Cert.Mlp.Gen.facts, Cert.MlpIdeal.Gen.facts, Cert.MlpRefIdeal.Gen.facts,
   Cert.Mix.Gen.facts, Cert.MixIdeal.Gen.facts, Cert.MixRefIdeal.Gen.facts,
   Cert.Proj.Gen.facts, Cert.ProjIdeal.Gen.facts, Cert.ProjRefIdeal.Gen.facts, pre_facts,
   fun m ρ _ => Cert.Attn.Gen.frame m ρ, fun m ρ _ => Cert.AttnIdeal.Gen.frame m ρ,
   fun m ρ _ => Cert.AttnIdeal.Gen.frame m ρ, Cert.Own.attn_ref_frame,
   @attn_ref_frame_finite pre_facts,
   fun m ρ _ => Cert.Mlp.Gen.frame m ρ, fun m ρ _ => Cert.MlpIdeal.Gen.frame m ρ, Cert.Own.mlp_ref_frame,
   fun m ρ _ => Cert.Mix.Gen.frame m ρ, fun m ρ _ => Cert.MixIdeal.Gen.frame m ρ, Cert.Own.mix_ref_frame,
   fun m ρ _ => Cert.Proj.Gen.frame m ρ, fun m ρ _ => Cert.ProjIdeal.Gen.frame m ρ, Cert.Own.proj_ref_frame,
   IdealRules.named_const.statement Cert.AttnIdeal.κ "mask" .f32 0xF149F2CA#32 ⊥ rfl,
   @Cert.Own.attn_algebraic pre_facts,
   trivial, Cert.Own.mlp_algebraic, trivial, Cert.Own.mix_algebraic,
   trivial, Cert.Own.proj_algebraic⟩

end Cert.Proof

end
